-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x3 : Shape := ⟨3, ![4, 16384, 3]⟩
abbrev S4x24x4 : Shape := ⟨3, ![4, 24, 4]⟩
abbrev S24x1024x64x16 : Shape := ⟨4, ![24, 1024, 64, 16]⟩
abbrev S24x1024x4 : Shape := ⟨3, ![24, 1024, 4]⟩
abbrev S2x3 : Shape := ⟨2, ![2, 3]⟩
abbrev S24x4x4 : Shape := ⟨3, ![24, 4, 4]⟩
abbrev S24x4x1024 : Shape := ⟨3, ![24, 4, 1024]⟩
abbrev S24x64x16x1024 : Shape := ⟨4, ![24, 64, 16, 1024]⟩
abbrev S24x1024x1024 : Shape := ⟨3, ![24, 1024, 1024]⟩
abbrev S1x4x4 : Shape := ⟨3, ![1, 4, 4]⟩
abbrev S1x4x1024 : Shape := ⟨3, ![1, 4, 1024]⟩
abbrev S1x1024x1024 : Shape := ⟨3, ![1, 1024, 1024]⟩
abbrev S1x1024x4 : Shape := ⟨3, ![1, 1024, 4]⟩
abbrev S4x4 : Shape := ⟨2, ![4, 4]⟩
abbrev S4x1024 : Shape := ⟨2, ![4, 1024]⟩
abbrev S4x1 : Shape := ⟨2, ![4, 1]⟩
abbrev S1x1024 : Shape := ⟨2, ![1, 1024]⟩
abbrev S4 : Shape := ⟨1, ![4]⟩
abbrev S1024x4 : Shape := ⟨2, ![1024, 4]⟩
abbrev S1024x1024 : Shape := ⟨2, ![1024, 1024]⟩
abbrev S1x24x1024x4 : Shape := ⟨4, ![1, 24, 1024, 4]⟩
abbrev S3x24x1024x4 : Shape := ⟨4, ![3, 24, 1024, 4]⟩
abbrev S3x24x64x16x4 : Shape := ⟨5, ![3, 24, 64, 16, 4]⟩
abbrev S4x24x16x3x64 : Shape := ⟨5, ![4, 24, 16, 3, 64]⟩
abbrev S3x3 : Shape := ⟨2, ![3, 3]⟩
abbrev S_ : Shape := ⟨0, ![]⟩
abbrev S4x24x1x16x3x64 : Shape := ⟨6, ![4, 24, 1, 16, 3, 64]⟩
abbrev S1x1x3x1x3x1 : Shape := ⟨6, ![1, 1, 3, 1, 3, 1]⟩
abbrev S4x24x3x16x3x64 : Shape := ⟨6, ![4, 24, 3, 16, 3, 64]⟩
abbrev S4x1152x192 : Shape := ⟨3, ![4, 1152, 192]⟩
abbrev S1x3 : Shape := ⟨2, ![1, 3]⟩
abbrev S3 : Shape := ⟨1, ![3]⟩
abbrev S3x64 : Shape := ⟨2, ![3, 64]⟩
abbrev S192 : Shape := ⟨1, ![192]⟩
abbrev S192x1 : Shape := ⟨2, ![192, 1]⟩
abbrev S192x2 : Shape := ⟨2, ![192, 2]⟩
abbrev S4x3x16384 : Shape := ⟨3, ![4, 3, 16384]⟩
abbrev S4x1152x16384 : Shape := ⟨3, ![4, 1152, 16384]⟩
abbrev S1x3x2048 : Shape := ⟨3, ![1, 3, 2048]⟩
abbrev S1x1152x192 : Shape := ⟨3, ![1, 1152, 192]⟩
abbrev S1x1152x2048 : Shape := ⟨3, ![1, 1152, 2048]⟩
abbrev S3x2048 : Shape := ⟨2, ![3, 2048]⟩
abbrev S1x2048 : Shape := ⟨2, ![1, 2048]⟩
abbrev S192x2048 : Shape := ⟨2, ![192, 2048]⟩
abbrev S1152x192 : Shape := ⟨2, ![1152, 192]⟩
abbrev S1152x2048 : Shape := ⟨2, ![1152, 2048]⟩
abbrev S4x24x3x16x16384 : Shape := ⟨5, ![4, 24, 3, 16, 16384]⟩
abbrev S4x16384x24x3x16 : Shape := ⟨5, ![4, 16384, 24, 3, 16]⟩

abbrev nBuf : Space → Nat
  | .hbm => 59
  | .vmem => 23
  | .smem => 0
  | _ => 0

abbrev bufTy : (tb : Table) → Fin (tcTables nBuf tb) → BufTy
  | .hbm, ⟨0, _⟩ => ⟨S4x16384x3, .f32⟩
  | .hbm, ⟨1, _⟩ => ⟨S4x24x4, .f32⟩
  | .hbm, ⟨2, _⟩ => ⟨S24x1024x64x16, .f32⟩
  | .hbm, ⟨3, _⟩ => ⟨S24x1024x64x16, .f32⟩
  | .hbm, ⟨4, _⟩ => ⟨S24x1024x64x16, .f32⟩
  | .hbm, ⟨5, _⟩ => ⟨S24x1024x4, .f32⟩
  | .hbm, ⟨6, _⟩ => ⟨S2x3, .f32⟩
  | .hbm, ⟨7, _⟩ => ⟨S24x4x4, .f32⟩
  | .hbm, ⟨8, _⟩ => ⟨S24x4x1024, .f32⟩
  | .hbm, ⟨9, _⟩ => ⟨S24x64x16x1024, .f32⟩
  | .hbm, ⟨10, _⟩ => ⟨S24x1024x1024, .f32⟩
  | .hbm, ⟨11, _⟩ => ⟨S24x64x16x1024, .f32⟩
  | .hbm, ⟨12, _⟩ => ⟨S24x1024x1024, .f32⟩
  | .hbm, ⟨13, _⟩ => ⟨S24x64x16x1024, .f32⟩
  | .hbm, ⟨14, _⟩ => ⟨S24x1024x1024, .f32⟩
  | .hbm, ⟨15, _⟩ => ⟨S24x1024x4, .f32⟩
  | .hbm, ⟨16, _⟩ => ⟨S24x1024x4, .f32⟩
  | .hbm, ⟨17, _⟩ => ⟨S24x1024x4, .f32⟩
  | .hbm, ⟨18, _⟩ => ⟨S1x24x1024x4, .f32⟩
  | .hbm, ⟨19, _⟩ => ⟨S1x24x1024x4, .f32⟩
  | .hbm, ⟨20, _⟩ => ⟨S1x24x1024x4, .f32⟩
  | .hbm, ⟨21, _⟩ => ⟨S3x24x1024x4, .f32⟩
  | .hbm, ⟨22, _⟩ => ⟨S3x24x64x16x4, .f32⟩
  | .hbm, ⟨23, _⟩ => ⟨S4x24x16x3x64, .f32⟩
  | .hbm, ⟨24, _⟩ => ⟨S3x3, .i32⟩
  | .hbm, ⟨25, _⟩ => ⟨S3x3, .i32⟩
  | .hbm, ⟨26, _⟩ => ⟨S_, .i32⟩
  | .hbm, ⟨27, _⟩ => ⟨S3x3, .i32⟩
  | .hbm, ⟨28, _⟩ => ⟨S3x3, .i32⟩
  | .hbm, ⟨29, _⟩ => ⟨S3x3, .i1⟩
  | .hbm, ⟨30, _⟩ => ⟨S3x3, .f32⟩
  | .hbm, ⟨31, _⟩ => ⟨S4x24x1x16x3x64, .f32⟩
  | .hbm, ⟨32, _⟩ => ⟨S1x1x3x1x3x1, .f32⟩
  | .hbm, ⟨33, _⟩ => ⟨S4x24x3x16x3x64, .f32⟩
  | .hbm, ⟨34, _⟩ => ⟨S4x24x3x16x3x64, .f32⟩
  | .hbm, ⟨35, _⟩ => ⟨S4x24x3x16x3x64, .f32⟩
  | .hbm, ⟨36, _⟩ => ⟨S4x1152x192, .f32⟩
  | .hbm, ⟨37, _⟩ => ⟨S4x1152x192, .bf16⟩
  | .hbm, ⟨38, _⟩ => ⟨S1x3, .f32⟩
  | .hbm, ⟨39, _⟩ => ⟨S3, .f32⟩
  | .hbm, ⟨40, _⟩ => ⟨S1x3, .f32⟩
  | .hbm, ⟨41, _⟩ => ⟨S3, .f32⟩
  | .hbm, ⟨42, _⟩ => ⟨S1x3, .f32⟩
  | .hbm, ⟨43, _⟩ => ⟨S3, .f32⟩
  | .hbm, ⟨44, _⟩ => ⟨S3, .f32⟩
  | .hbm, ⟨45, _⟩ => ⟨S_, .f32⟩
  | .hbm, ⟨46, _⟩ => ⟨S3, .f32⟩
  | .hbm, ⟨47, _⟩ => ⟨S3, .f32⟩
  | .hbm, ⟨48, _⟩ => ⟨S3x64, .f32⟩
  | .hbm, ⟨49, _⟩ => ⟨S192, .f32⟩
  | .hbm, ⟨50, _⟩ => ⟨S3x64, .f32⟩
  | .hbm, ⟨51, _⟩ => ⟨S192, .f32⟩
  | .hbm, ⟨52, _⟩ => ⟨S192x1, .f32⟩
  | .hbm, ⟨53, _⟩ => ⟨S192x1, .f32⟩
  | .hbm, ⟨54, _⟩ => ⟨S192x2, .f32⟩
  | .hbm, ⟨55, _⟩ => ⟨S4x3x16384, .f32⟩
  | .hbm, ⟨56, _⟩ => ⟨S4x1152x16384, .f32⟩
  | .hbm, ⟨57, _⟩ => ⟨S4x24x3x16x16384, .f32⟩
  | .hbm, ⟨58, _⟩ => ⟨S4x16384x24x3x16, .f32⟩
  | .local _ .vmem, ⟨0, _⟩ => ⟨S1x4x4, .f32⟩
  | .local _ .vmem, ⟨1, _⟩ => ⟨S1x4x4, .f32⟩
  | .local _ .vmem, ⟨2, _⟩ => ⟨S1x4x1024, .f32⟩
  | .local _ .vmem, ⟨3, _⟩ => ⟨S1x4x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x4, .f32⟩
  | .local _ .vmem, ⟨11, _⟩ => ⟨S1x1024x4, .f32⟩
  | .local _ .vmem, ⟨12, _⟩ => ⟨S1x1024x4, .f32⟩
  | .local _ .vmem, ⟨13, _⟩ => ⟨S1x1024x4, .f32⟩
  | .local _ .vmem, ⟨14, _⟩ => ⟨S1x1024x4, .f32⟩
  | .local _ .vmem, ⟨15, _⟩ => ⟨S1x1024x4, .f32⟩
  | .local _ .vmem, ⟨16, _⟩ => ⟨S192x2, .f32⟩
  | .local _ .vmem, ⟨17, _⟩ => ⟨S1x3x2048, .f32⟩
  | .local _ .vmem, ⟨18, _⟩ => ⟨S1x3x2048, .f32⟩
  | .local _ .vmem, ⟨19, _⟩ => ⟨S1x1152x192, .bf16⟩
  | .local _ .vmem, ⟨20, _⟩ => ⟨S1x1152x192, .bf16⟩
  | .local _ .vmem, ⟨21, _⟩ => ⟨S1x1152x2048, .f32⟩
  | .local _ .vmem, ⟨22, _⟩ => ⟨S1x1152x2048, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S192x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x3x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1152x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1152x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x16384x3 : Shape := ⟨3, ![4, 16384, 3]⟩
abbrev S4x24x4 : Shape := ⟨3, ![4, 24, 4]⟩
abbrev S24x1024x64x16 : Shape := ⟨4, ![24, 1024, 64, 16]⟩
abbrev S24x1024x4 : Shape := ⟨3, ![24, 1024, 4]⟩
abbrev S2x3 : Shape := ⟨2, ![2, 3]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S4x24x1x4 : Shape := ⟨4, ![4, 24, 1, 4]⟩
abbrev S1x24x1024x4 : Shape := ⟨4, ![1, 24, 1024, 4]⟩
abbrev S4x24x1024x4 : Shape := ⟨4, ![4, 24, 1024, 4]⟩
abbrev S4x24x1024 : Shape := ⟨3, ![4, 24, 1024]⟩
abbrev S4x24x10 : Shape := ⟨3, ![4, 24, 10]⟩
abbrev S4x24 : Shape := ⟨2, ![4, 24]⟩
abbrev S4x24x1 : Shape := ⟨3, ![4, 24, 1]⟩
abbrev S4x16384x1 : Shape := ⟨3, ![4, 16384, 1]⟩
abbrev S4x16384 : Shape := ⟨2, ![4, 16384]⟩
abbrev S24 : Shape := ⟨1, ![24]⟩
abbrev S1x24x1 : Shape := ⟨3, ![1, 24, 1]⟩
abbrev S4x24x10x1 : Shape := ⟨4, ![4, 24, 10, 1]⟩
abbrev S4x24x10x2 : Shape := ⟨4, ![4, 24, 10, 2]⟩
abbrev S4x24x10x64x16 : Shape := ⟨5, ![4, 24, 10, 64, 16]⟩
abbrev S4x24x10x1x1 : Shape := ⟨5, ![4, 24, 10, 1, 1]⟩
abbrev S4x24x64x16 : Shape := ⟨4, ![4, 24, 64, 16]⟩
abbrev S4x24x16x64 : Shape := ⟨4, ![4, 24, 16, 64]⟩
abbrev S4x384x64 : Shape := ⟨3, ![4, 384, 64]⟩
abbrev S4x1x16384 : Shape := ⟨3, ![4, 1, 16384]⟩
abbrev S1 : Shape := ⟨1, ![1]⟩
abbrev S1x1x1 : Shape := ⟨3, ![1, 1, 1]⟩
abbrev S4x384x16384 : Shape := ⟨3, ![4, 384, 16384]⟩
abbrev S4x16384x384 : Shape := ⟨3, ![4, 16384, 384]⟩
abbrev S4x16384x24x16 : Shape := ⟨4, ![4, 16384, 24, 16]⟩
abbrev S4x16384x24x1x16 : Shape := ⟨5, ![4, 16384, 24, 1, 16]⟩
abbrev S4x16384x24x3x16 : Shape := ⟨5, ![4, 16384, 24, 3, 16]⟩

abbrev nBuf : Space → Nat
  | .hbm => 415
  | .vmem => 0
  | .smem => 0
  | _ => 0

abbrev hbmTy0_0 (i : Nat) : BufTy := match i % 128 with
  | 0 => ⟨S4x16384x3, .f32⟩
  | 1 => ⟨S4x24x4, .f32⟩
  | 2 => ⟨S24x1024x64x16, .f32⟩
  | 3 => ⟨S24x1024x64x16, .f32⟩
  | 4 => ⟨S24x1024x64x16, .f32⟩
  | 5 => ⟨S24x1024x4, .f32⟩
  | 6 => ⟨S2x3, .f32⟩
  | 7 => ⟨S1x3, .f32⟩
  | 8 => ⟨S3, .f32⟩
  | 9 => ⟨S1x1x3, .f32⟩
  | 10 => ⟨S4x16384x3, .f32⟩
  | 11 => ⟨S4x16384x3, .f32⟩
  | 12 => ⟨S1x3, .f32⟩
  | 13 => ⟨S3, .f32⟩
  | 14 => ⟨S1x3, .f32⟩
  | 15 => ⟨S3, .f32⟩
  | 16 => ⟨S3, .f32⟩
  | 17 => ⟨S1x1x3, .f32⟩
  | 18 => ⟨S4x16384x3, .f32⟩
  | 19 => ⟨S4x16384x3, .f32⟩
  | 20 => ⟨S_, .f32⟩
  | 21 => ⟨S4x16384x3, .f32⟩
  | 22 => ⟨S4x16384x3, .f32⟩
  | 23 => ⟨S_, .f32⟩
  | 24 => ⟨S4x16384x3, .f32⟩
  | 25 => ⟨S4x16384x3, .f32⟩
  | 26 => ⟨S4x24x1x4, .f32⟩
  | 27 => ⟨S1x24x1024x4, .f32⟩
  | 28 => ⟨S4x24x1024x4, .f32⟩
  | 29 => ⟨S4x24x1024x4, .f32⟩
  | 30 => ⟨S4x24x1024x4, .f32⟩
  | 31 => ⟨S_, .f32⟩
  | 32 => ⟨S4x24x1024, .f32⟩
  | 33 => ⟨S4x24x1024, .f32⟩
  | 34 => ⟨S4x24x10, .f32⟩
  | 35 => ⟨S4x24x10, .i32⟩
  | 36 => ⟨S4x24x10, .f32⟩
  | 37 => ⟨S_, .f32⟩
  | 38 => ⟨S4x24, .f32⟩
  | 39 => ⟨S4x24x1, .f32⟩
  | 40 => ⟨S_, .f32⟩
  | 41 => ⟨S4x24x1, .f32⟩
  | 42 => ⟨S4x24x1, .f32⟩
  | 43 => ⟨S4x24x10, .f32⟩
  | 44 => ⟨S4x24x10, .f32⟩
  | 45 => ⟨S4x16384x1, .f32⟩
  | 46 => ⟨S4x16384, .f32⟩
  | 47 => ⟨S24, .i32⟩
  | 48 => ⟨S1x24x1, .i32⟩
  | 49 => ⟨S_, .i32⟩
  | 50 => ⟨S1x24x1, .i32⟩
  | 51 => ⟨S1x24x1, .i1⟩
  | 52 => ⟨S_, .i32⟩
  | 53 => ⟨S1x24x1, .i32⟩
  | 54 => ⟨S1x24x1, .i32⟩
  | 55 => ⟨S1x24x1, .i32⟩
  | 56 => ⟨S_, .i32⟩
  | 57 => ⟨S4x24x10, .i32⟩
  | 58 => ⟨S4x24x10, .i1⟩
  | 59 => ⟨S_, .i32⟩
  | 60 => ⟨S4x24x10, .i32⟩
  | 61 => ⟨S4x24x10, .i32⟩
  | 62 => ⟨S4x24x10, .i32⟩
  | 63 => ⟨S4x24x10, .i32⟩
  | 64 => ⟨S4x24x10x1, .i32⟩
  | 65 => ⟨S4x24x10x1, .i32⟩
  | 66 => ⟨S4x24x10x2, .i32⟩
  | 67 => ⟨S4x24x10x64x16, .f32⟩
  | 68 => ⟨S4x24x10x1x1, .f32⟩
  | 69 => ⟨S4x24x10x64x16, .f32⟩
  | 70 => ⟨S4x24x10x64x16, .f32⟩
  | 71 => ⟨S_, .f32⟩
  | 72 => ⟨S4x24x64x16, .f32⟩
  | 73 => ⟨S4x24x16x64, .f32⟩
  | 74 => ⟨S4x384x64, .f32⟩
  | 75 => ⟨S_, .f32⟩
  | 76 => ⟨S4x16384, .f32⟩
  | 77 => ⟨S4x16384, .f32⟩
  | 78 => ⟨S_, .f32⟩
  | 79 => ⟨S4x16384, .f32⟩
  | 80 => ⟨S4x16384, .f32⟩
  | 81 => ⟨S_, .f32⟩
  | 82 => ⟨S4x16384, .f32⟩
  | 83 => ⟨S4x16384, .f32⟩
  | 84 => ⟨S_, .f32⟩
  | 85 => ⟨S_, .i32⟩
  | 86 => ⟨S_, .f32⟩
  | 87 => ⟨S4x16384, .f32⟩
  | 88 => ⟨S4x16384, .f32⟩
  | 89 => ⟨S_, .f32⟩
  | 90 => ⟨S4x16384, .f32⟩
  | 91 => ⟨S4x16384, .f32⟩
  | 92 => ⟨S4x16384, .f32⟩
  | 93 => ⟨S4x16384, .i32⟩
  | 94 => ⟨S_, .i32⟩
  | 95 => ⟨S_, .i32⟩
  | 96 => ⟨S_, .i32⟩
  | 97 => ⟨S4x16384, .i32⟩
  | 98 => ⟨S4x16384, .i32⟩
  | 99 => ⟨S_, .i32⟩
  | 100 => ⟨S4x16384, .i32⟩
  | 101 => ⟨S4x16384, .i32⟩
  | 102 => ⟨S_, .i32⟩
  | 103 => ⟨S4x16384, .i32⟩
  | 104 => ⟨S4x16384, .i32⟩
  | 105 => ⟨S4x16384, .f32⟩
  | 106 => ⟨S4x16384, .f32⟩
  | 107 => ⟨S4x1x16384, .i32⟩
  | 108 => ⟨S_, .i32⟩
  | 109 => ⟨S4x1x16384, .i32⟩
  | 110 => ⟨S4x1x16384, .i1⟩
  | 111 => ⟨S_, .i32⟩
  | 112 => ⟨S4x1x16384, .i32⟩
  | 113 => ⟨S4x1x16384, .i32⟩
  | 114 => ⟨S4x1x16384, .i32⟩
  | 115 => ⟨S4x16384x1, .i32⟩
  | 116 => ⟨S1, .i32⟩
  | 117 => ⟨S_, .i32⟩
  | 118 => ⟨S4x16384x1, .i32⟩
  | 119 => ⟨S4x16384x1, .i1⟩
  | 120 => ⟨S1x1x1, .i32⟩
  | 121 => ⟨S4x16384x1, .i32⟩
  | 122 => ⟨S4x16384x1, .i1⟩
  | 123 => ⟨S4x16384x1, .i1⟩
  | 124 => ⟨S_, .i1⟩
  | 125 => ⟨S4x16384, .i1⟩
  | 126 => ⟨S4x384x16384, .f32⟩
  | 127 => ⟨S4x384x16384, .i1⟩
  | _ => ⟨S4x16384x3, .f32⟩

abbrev hbmTy0_1 (i : Nat) : BufTy := match i % 128 with
  | 0 => ⟨S_, .f32⟩
  | 1 => ⟨S4x384x16384, .f32⟩
  | 2 => ⟨S4x384x16384, .f32⟩
  | 3 => ⟨S4x1x16384, .i32⟩
  | 4 => ⟨S_, .i32⟩
  | 5 => ⟨S4x1x16384, .i32⟩
  | 6 => ⟨S4x1x16384, .i1⟩
  | 7 => ⟨S_, .i32⟩
  | 8 => ⟨S4x1x16384, .i32⟩
  | 9 => ⟨S4x1x16384, .i32⟩
  | 10 => ⟨S4x1x16384, .i32⟩
  | 11 => ⟨S4x16384x1, .i32⟩
  | 12 => ⟨S1, .i32⟩
  | 13 => ⟨S_, .i32⟩
  | 14 => ⟨S4x16384x1, .i32⟩
  | 15 => ⟨S4x16384x1, .i1⟩
  | 16 => ⟨S1x1x1, .i32⟩
  | 17 => ⟨S4x16384x1, .i32⟩
  | 18 => ⟨S4x16384x1, .i1⟩
  | 19 => ⟨S4x16384x1, .i1⟩
  | 20 => ⟨S_, .i1⟩
  | 21 => ⟨S4x16384, .i1⟩
  | 22 => ⟨S4x384x16384, .f32⟩
  | 23 => ⟨S4x384x16384, .i1⟩
  | 24 => ⟨S_, .f32⟩
  | 25 => ⟨S4x384x16384, .f32⟩
  | 26 => ⟨S4x384x16384, .f32⟩
  | 27 => ⟨S_, .f32⟩
  | 28 => ⟨S4x16384, .f32⟩
  | 29 => ⟨S4x16384, .f32⟩
  | 30 => ⟨S4x1x16384, .f32⟩
  | 31 => ⟨S4x384x16384, .f32⟩
  | 32 => ⟨S4x384x16384, .f32⟩
  | 33 => ⟨S4x1x16384, .f32⟩
  | 34 => ⟨S4x384x16384, .f32⟩
  | 35 => ⟨S4x384x16384, .f32⟩
  | 36 => ⟨S4x384x16384, .f32⟩
  | 37 => ⟨S4x16384x384, .f32⟩
  | 38 => ⟨S4x16384x24x16, .f32⟩
  | 39 => ⟨S4x16384x1, .f32⟩
  | 40 => ⟨S4x16384, .f32⟩
  | 41 => ⟨S24, .i32⟩
  | 42 => ⟨S1x24x1, .i32⟩
  | 43 => ⟨S_, .i32⟩
  | 44 => ⟨S1x24x1, .i32⟩
  | 45 => ⟨S1x24x1, .i1⟩
  | 46 => ⟨S_, .i32⟩
  | 47 => ⟨S1x24x1, .i32⟩
  | 48 => ⟨S1x24x1, .i32⟩
  | 49 => ⟨S1x24x1, .i32⟩
  | 50 => ⟨S_, .i32⟩
  | 51 => ⟨S4x24x10, .i32⟩
  | 52 => ⟨S4x24x10, .i1⟩
  | 53 => ⟨S_, .i32⟩
  | 54 => ⟨S4x24x10, .i32⟩
  | 55 => ⟨S4x24x10, .i32⟩
  | 56 => ⟨S4x24x10, .i32⟩
  | 57 => ⟨S4x24x10, .i32⟩
  | 58 => ⟨S4x24x10x1, .i32⟩
  | 59 => ⟨S4x24x10x1, .i32⟩
  | 60 => ⟨S4x24x10x2, .i32⟩
  | 61 => ⟨S4x24x10x64x16, .f32⟩
  | 62 => ⟨S4x24x10x1x1, .f32⟩
  | 63 => ⟨S4x24x10x64x16, .f32⟩
  | 64 => ⟨S4x24x10x64x16, .f32⟩
  | 65 => ⟨S_, .f32⟩
  | 66 => ⟨S4x24x64x16, .f32⟩
  | 67 => ⟨S4x24x16x64, .f32⟩
  | 68 => ⟨S4x384x64, .f32⟩
  | 69 => ⟨S_, .f32⟩
  | 70 => ⟨S4x16384, .f32⟩
  | 71 => ⟨S4x16384, .f32⟩
  | 72 => ⟨S_, .f32⟩
  | 73 => ⟨S4x16384, .f32⟩
  | 74 => ⟨S4x16384, .f32⟩
  | 75 => ⟨S_, .f32⟩
  | 76 => ⟨S4x16384, .f32⟩
  | 77 => ⟨S4x16384, .f32⟩
  | 78 => ⟨S_, .f32⟩
  | 79 => ⟨S_, .i32⟩
  | 80 => ⟨S_, .f32⟩
  | 81 => ⟨S4x16384, .f32⟩
  | 82 => ⟨S4x16384, .f32⟩
  | 83 => ⟨S_, .f32⟩
  | 84 => ⟨S4x16384, .f32⟩
  | 85 => ⟨S4x16384, .f32⟩
  | 86 => ⟨S4x16384, .f32⟩
  | 87 => ⟨S4x16384, .i32⟩
  | 88 => ⟨S_, .i32⟩
  | 89 => ⟨S_, .i32⟩
  | 90 => ⟨S_, .i32⟩
  | 91 => ⟨S4x16384, .i32⟩
  | 92 => ⟨S4x16384, .i32⟩
  | 93 => ⟨S_, .i32⟩
  | 94 => ⟨S4x16384, .i32⟩
  | 95 => ⟨S4x16384, .i32⟩
  | 96 => ⟨S_, .i32⟩
  | 97 => ⟨S4x16384, .i32⟩
  | 98 => ⟨S4x16384, .i32⟩
  | 99 => ⟨S4x16384, .f32⟩
  | 100 => ⟨S4x16384, .f32⟩
  | 101 => ⟨S4x1x16384, .i32⟩
  | 102 => ⟨S_, .i32⟩
  | 103 => ⟨S4x1x16384, .i32⟩
  | 104 => ⟨S4x1x16384, .i1⟩
  | 105 => ⟨S_, .i32⟩
  | 106 => ⟨S4x1x16384, .i32⟩
  | 107 => ⟨S4x1x16384, .i32⟩
  | 108 => ⟨S4x1x16384, .i32⟩
  | 109 => ⟨S4x16384x1, .i32⟩
  | 110 => ⟨S1, .i32⟩
  | 111 => ⟨S_, .i32⟩
  | 112 => ⟨S4x16384x1, .i32⟩
  | 113 => ⟨S4x16384x1, .i1⟩
  | 114 => ⟨S1x1x1, .i32⟩
  | 115 => ⟨S4x16384x1, .i32⟩
  | 116 => ⟨S4x16384x1, .i1⟩
  | 117 => ⟨S4x16384x1, .i1⟩
  | 118 => ⟨S_, .i1⟩
  | 119 => ⟨S4x16384, .i1⟩
  | 120 => ⟨S4x384x16384, .f32⟩
  | 121 => ⟨S4x384x16384, .i1⟩
  | 122 => ⟨S_, .f32⟩
  | 123 => ⟨S4x384x16384, .f32⟩
  | 124 => ⟨S4x384x16384, .f32⟩
  | 125 => ⟨S4x1x16384, .i32⟩
  | 126 => ⟨S_, .i32⟩
  | 127 => ⟨S4x1x16384, .i32⟩
  | _ => ⟨S4x16384x3, .f32⟩

abbrev hbmTy0_2 (i : Nat) : BufTy := match i % 128 with
  | 0 => ⟨S4x1x16384, .i1⟩
  | 1 => ⟨S_, .i32⟩
  | 2 => ⟨S4x1x16384, .i32⟩
  | 3 => ⟨S4x1x16384, .i32⟩
  | 4 => ⟨S4x1x16384, .i32⟩
  | 5 => ⟨S4x16384x1, .i32⟩
  | 6 => ⟨S1, .i32⟩
  | 7 => ⟨S_, .i32⟩
  | 8 => ⟨S4x16384x1, .i32⟩
  | 9 => ⟨S4x16384x1, .i1⟩
  | 10 => ⟨S1x1x1, .i32⟩
  | 11 => ⟨S4x16384x1, .i32⟩
  | 12 => ⟨S4x16384x1, .i1⟩
  | 13 => ⟨S4x16384x1, .i1⟩
  | 14 => ⟨S_, .i1⟩
  | 15 => ⟨S4x16384, .i1⟩
  | 16 => ⟨S4x384x16384, .f32⟩
  | 17 => ⟨S4x384x16384, .i1⟩
  | 18 => ⟨S_, .f32⟩
  | 19 => ⟨S4x384x16384, .f32⟩
  | 20 => ⟨S4x384x16384, .f32⟩
  | 21 => ⟨S_, .f32⟩
  | 22 => ⟨S4x16384, .f32⟩
  | 23 => ⟨S4x16384, .f32⟩
  | 24 => ⟨S4x1x16384, .f32⟩
  | 25 => ⟨S4x384x16384, .f32⟩
  | 26 => ⟨S4x384x16384, .f32⟩
  | 27 => ⟨S4x1x16384, .f32⟩
  | 28 => ⟨S4x384x16384, .f32⟩
  | 29 => ⟨S4x384x16384, .f32⟩
  | 30 => ⟨S4x384x16384, .f32⟩
  | 31 => ⟨S4x16384x384, .f32⟩
  | 32 => ⟨S4x16384x24x16, .f32⟩
  | 33 => ⟨S4x16384x1, .f32⟩
  | 34 => ⟨S4x16384, .f32⟩
  | 35 => ⟨S24, .i32⟩
  | 36 => ⟨S1x24x1, .i32⟩
  | 37 => ⟨S_, .i32⟩
  | 38 => ⟨S1x24x1, .i32⟩
  | 39 => ⟨S1x24x1, .i1⟩
  | 40 => ⟨S_, .i32⟩
  | 41 => ⟨S1x24x1, .i32⟩
  | 42 => ⟨S1x24x1, .i32⟩
  | 43 => ⟨S1x24x1, .i32⟩
  | 44 => ⟨S_, .i32⟩
  | 45 => ⟨S4x24x10, .i32⟩
  | 46 => ⟨S4x24x10, .i1⟩
  | 47 => ⟨S_, .i32⟩
  | 48 => ⟨S4x24x10, .i32⟩
  | 49 => ⟨S4x24x10, .i32⟩
  | 50 => ⟨S4x24x10, .i32⟩
  | 51 => ⟨S4x24x10, .i32⟩
  | 52 => ⟨S4x24x10x1, .i32⟩
  | 53 => ⟨S4x24x10x1, .i32⟩
  | 54 => ⟨S4x24x10x2, .i32⟩
  | 55 => ⟨S4x24x10x64x16, .f32⟩
  | 56 => ⟨S4x24x10x1x1, .f32⟩
  | 57 => ⟨S4x24x10x64x16, .f32⟩
  | 58 => ⟨S4x24x10x64x16, .f32⟩
  | 59 => ⟨S_, .f32⟩
  | 60 => ⟨S4x24x64x16, .f32⟩
  | 61 => ⟨S4x24x16x64, .f32⟩
  | 62 => ⟨S4x384x64, .f32⟩
  | 63 => ⟨S_, .f32⟩
  | 64 => ⟨S4x16384, .f32⟩
  | 65 => ⟨S4x16384, .f32⟩
  | 66 => ⟨S_, .f32⟩
  | 67 => ⟨S4x16384, .f32⟩
  | 68 => ⟨S4x16384, .f32⟩
  | 69 => ⟨S_, .f32⟩
  | 70 => ⟨S4x16384, .f32⟩
  | 71 => ⟨S4x16384, .f32⟩
  | 72 => ⟨S_, .f32⟩
  | 73 => ⟨S_, .i32⟩
  | 74 => ⟨S_, .f32⟩
  | 75 => ⟨S4x16384, .f32⟩
  | 76 => ⟨S4x16384, .f32⟩
  | 77 => ⟨S_, .f32⟩
  | 78 => ⟨S4x16384, .f32⟩
  | 79 => ⟨S4x16384, .f32⟩
  | 80 => ⟨S4x16384, .f32⟩
  | 81 => ⟨S4x16384, .i32⟩
  | 82 => ⟨S_, .i32⟩
  | 83 => ⟨S_, .i32⟩
  | 84 => ⟨S_, .i32⟩
  | 85 => ⟨S4x16384, .i32⟩
  | 86 => ⟨S4x16384, .i32⟩
  | 87 => ⟨S_, .i32⟩
  | 88 => ⟨S4x16384, .i32⟩
  | 89 => ⟨S4x16384, .i32⟩
  | 90 => ⟨S_, .i32⟩
  | 91 => ⟨S4x16384, .i32⟩
  | 92 => ⟨S4x16384, .i32⟩
  | 93 => ⟨S4x16384, .f32⟩
  | 94 => ⟨S4x16384, .f32⟩
  | 95 => ⟨S4x1x16384, .i32⟩
  | 96 => ⟨S_, .i32⟩
  | 97 => ⟨S4x1x16384, .i32⟩
  | 98 => ⟨S4x1x16384, .i1⟩
  | 99 => ⟨S_, .i32⟩
  | 100 => ⟨S4x1x16384, .i32⟩
  | 101 => ⟨S4x1x16384, .i32⟩
  | 102 => ⟨S4x1x16384, .i32⟩
  | 103 => ⟨S4x16384x1, .i32⟩
  | 104 => ⟨S1, .i32⟩
  | 105 => ⟨S_, .i32⟩
  | 106 => ⟨S4x16384x1, .i32⟩
  | 107 => ⟨S4x16384x1, .i1⟩
  | 108 => ⟨S1x1x1, .i32⟩
  | 109 => ⟨S4x16384x1, .i32⟩
  | 110 => ⟨S4x16384x1, .i1⟩
  | 111 => ⟨S4x16384x1, .i1⟩
  | 112 => ⟨S_, .i1⟩
  | 113 => ⟨S4x16384, .i1⟩
  | 114 => ⟨S4x384x16384, .f32⟩
  | 115 => ⟨S4x384x16384, .i1⟩
  | 116 => ⟨S_, .f32⟩
  | 117 => ⟨S4x384x16384, .f32⟩
  | 118 => ⟨S4x384x16384, .f32⟩
  | 119 => ⟨S4x1x16384, .i32⟩
  | 120 => ⟨S_, .i32⟩
  | 121 => ⟨S4x1x16384, .i32⟩
  | 122 => ⟨S4x1x16384, .i1⟩
  | 123 => ⟨S_, .i32⟩
  | 124 => ⟨S4x1x16384, .i32⟩
  | 125 => ⟨S4x1x16384, .i32⟩
  | 126 => ⟨S4x1x16384, .i32⟩
  | 127 => ⟨S4x16384x1, .i32⟩
  | _ => ⟨S4x16384x3, .f32⟩

abbrev hbmTy0_3 (i : Nat) : BufTy := match i % 128 with
  | 0 => ⟨S1, .i32⟩
  | 1 => ⟨S_, .i32⟩
  | 2 => ⟨S4x16384x1, .i32⟩
  | 3 => ⟨S4x16384x1, .i1⟩
  | 4 => ⟨S1x1x1, .i32⟩
  | 5 => ⟨S4x16384x1, .i32⟩
  | 6 => ⟨S4x16384x1, .i1⟩
  | 7 => ⟨S4x16384x1, .i1⟩
  | 8 => ⟨S_, .i1⟩
  | 9 => ⟨S4x16384, .i1⟩
  | 10 => ⟨S4x384x16384, .f32⟩
  | 11 => ⟨S4x384x16384, .i1⟩
  | 12 => ⟨S_, .f32⟩
  | 13 => ⟨S4x384x16384, .f32⟩
  | 14 => ⟨S4x384x16384, .f32⟩
  | 15 => ⟨S_, .f32⟩
  | 16 => ⟨S4x16384, .f32⟩
  | 17 => ⟨S4x16384, .f32⟩
  | 18 => ⟨S4x1x16384, .f32⟩
  | 19 => ⟨S4x384x16384, .f32⟩
  | 20 => ⟨S4x384x16384, .f32⟩
  | 21 => ⟨S4x1x16384, .f32⟩
  | 22 => ⟨S4x384x16384, .f32⟩
  | 23 => ⟨S4x384x16384, .f32⟩
  | 24 => ⟨S4x384x16384, .f32⟩
  | 25 => ⟨S4x16384x384, .f32⟩
  | 26 => ⟨S4x16384x24x16, .f32⟩
  | 27 => ⟨S4x16384x24x1x16, .f32⟩
  | 28 => ⟨S4x16384x24x1x16, .f32⟩
  | 29 => ⟨S4x16384x24x1x16, .f32⟩
  | 30 => ⟨S4x16384x24x3x16, .f32⟩
  | _ => ⟨S4x16384x3, .f32⟩

abbrev hbmTy (i : Nat) : BufTy := match i / 128 with
  | 0 => hbmTy0_0 i
  | 1 => hbmTy0_1 i
  | 2 => hbmTy0_2 i
  | 3 => hbmTy0_3 i
  | _ => ⟨S4x16384x3, .f32⟩

abbrev bufTy : (tb : Table) → Fin (tcTables nBuf tb) → BufTy
  | .hbm, ⟨i, _⟩ => hbmTy i
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_values : Ref sig .tc := ⟨.hbm, 34, rfl⟩
abbrev main_indices : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_c_12 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_c_14 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v65 : Ref sig .tc := ⟨.hbm, 101, rfl⟩
abbrev main_c_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v71 : Ref sig .tc := ⟨.hbm, 130, rfl⟩
abbrev main_v72 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v73 : Ref sig .tc := ⟨.hbm, 154, rfl⟩
abbrev main_cst_16 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_17 : Ref sig .tc := ⟨.hbm, 171, rfl⟩
abbrev main_v89 : Ref sig .tc := ⟨.hbm, 172, rfl⟩
abbrev main_v90 : Ref sig .tc := ⟨.hbm, 173, rfl⟩
abbrev main_c_18 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_c_19 : Ref sig .tc := ⟨.hbm, 178, rfl⟩
abbrev main_v94 : Ref sig .tc := ⟨.hbm, 179, rfl⟩
abbrev main_v95 : Ref sig .tc := ⟨.hbm, 180, rfl⟩
abbrev main_c_20 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_21 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_cst_22 : Ref sig .tc := ⟨.hbm, 197, rfl⟩
abbrev main_v110 : Ref sig .tc := ⟨.hbm, 198, rfl⟩
abbrev main_v111 : Ref sig .tc := ⟨.hbm, 199, rfl⟩
abbrev main_cst_23 : Ref sig .tc := ⟨.hbm, 200, rfl⟩
abbrev main_v112 : Ref sig .tc := ⟨.hbm, 201, rfl⟩
abbrev main_v113 : Ref sig .tc := ⟨.hbm, 202, rfl⟩
abbrev main_cst_24 : Ref sig .tc := ⟨.hbm, 203, rfl⟩
abbrev main_v114 : Ref sig .tc := ⟨.hbm, 204, rfl⟩
abbrev main_v115 : Ref sig .tc := ⟨.hbm, 205, rfl⟩
abbrev main_cst_25 : Ref sig .tc := ⟨.hbm, 206, rfl⟩
abbrev main_c_26 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_c_27 : Ref sig .tc := ⟨.hbm, 216, rfl⟩
abbrev main_c_28 : Ref sig .tc := ⟨.hbm, 217, rfl⟩
abbrev main_call5_v0 : Ref sig .tc := ⟨.hbm, 218, rfl⟩
abbrev main_call5_v1 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_v119 : Ref sig .tc := ⟨.hbm, 223, rfl⟩
abbrev main_c_29 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_call6_c : Ref sig .tc := ⟨.hbm, 230, rfl⟩
abbrev main_call6_v0 : Ref sig .tc := ⟨.hbm, 231, rfl⟩
abbrev main_call6_v1 : Ref sig .tc := ⟨.hbm, 232, rfl⟩
abbrev main_call6_c_0 : Ref sig .tc := ⟨.hbm, 233, rfl⟩
abbrev main_call6_v2 : Ref sig .tc := ⟨.hbm, 234, rfl⟩
abbrev main_call6_v3 : Ref sig .tc := ⟨.hbm, 235, rfl⟩
abbrev main_call6_v4 : Ref sig .tc := ⟨.hbm, 236, rfl⟩
abbrev main_call6_v5 : Ref sig .tc := ⟨.hbm, 237, rfl⟩
abbrev main_call6_c_1 : Ref sig .tc := ⟨.hbm, 238, rfl⟩
abbrev main_call6_c_2 : Ref sig .tc := ⟨.hbm, 239, rfl⟩
abbrev main_call6_v6 : Ref sig .tc := ⟨.hbm, 240, rfl⟩
abbrev main_call6_v7 : Ref sig .tc := ⟨.hbm, 241, rfl⟩
abbrev main_call6_v8 : Ref sig .tc := ⟨.hbm, 242, rfl⟩
abbrev main_call6_v9 : Ref sig .tc := ⟨.hbm, 243, rfl⟩
abbrev main_call6_v10 : Ref sig .tc := ⟨.hbm, 244, rfl⟩
abbrev main_call6_v11 : Ref sig .tc := ⟨.hbm, 245, rfl⟩
abbrev main_call6_c_3 : Ref sig .tc := ⟨.hbm, 246, rfl⟩
abbrev main_call6_v12 : Ref sig .tc := ⟨.hbm, 247, rfl⟩
abbrev main_call6_v13 : Ref sig .tc := ⟨.hbm, 248, rfl⟩
abbrev main_call6_v14 : Ref sig .tc := ⟨.hbm, 249, rfl⟩
abbrev main_call6_cst : Ref sig .tc := ⟨.hbm, 250, rfl⟩
abbrev main_call6_v15 : Ref sig .tc := ⟨.hbm, 251, rfl⟩
abbrev main_v125 : Ref sig .tc := ⟨.hbm, 252, rfl⟩
abbrev main_v126 : Ref sig .tc := ⟨.hbm, 253, rfl⟩
abbrev main_call7_c : Ref sig .tc := ⟨.hbm, 254, rfl⟩
abbrev main_call7_v0 : Ref sig .tc := ⟨.hbm, 255, rfl⟩
abbrev main_call7_v1 : Ref sig .tc := ⟨.hbm, 256, rfl⟩
abbrev main_call7_c_0 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_call7_v5 : Ref sig .tc := ⟨.hbm, 261, rfl⟩
abbrev main_call7_c_1 : Ref sig .tc := ⟨.hbm, 262, rfl⟩
abbrev main_call7_c_2 : Ref sig .tc := ⟨.hbm, 263, rfl⟩
abbrev main_call7_v6 : Ref sig .tc := ⟨.hbm, 264, rfl⟩
abbrev main_call7_v7 : Ref sig .tc := ⟨.hbm, 265, rfl⟩
abbrev main_call7_v8 : Ref sig .tc := ⟨.hbm, 266, rfl⟩
abbrev main_call7_v9 : Ref sig .tc := ⟨.hbm, 267, rfl⟩
abbrev main_call7_v10 : Ref sig .tc := ⟨.hbm, 268, rfl⟩
abbrev main_call7_v11 : Ref sig .tc := ⟨.hbm, 269, rfl⟩
abbrev main_call7_c_3 : Ref sig .tc := ⟨.hbm, 270, rfl⟩
abbrev main_call7_v12 : Ref sig .tc := ⟨.hbm, 271, rfl⟩
abbrev main_call7_v13 : Ref sig .tc := ⟨.hbm, 272, rfl⟩
abbrev main_call7_v14 : Ref sig .tc := ⟨.hbm, 273, rfl⟩
abbrev main_call7_cst : Ref sig .tc := ⟨.hbm, 274, rfl⟩
abbrev main_call7_v15 : Ref sig .tc := ⟨.hbm, 275, rfl⟩
abbrev main_v127 : Ref sig .tc := ⟨.hbm, 276, rfl⟩
abbrev main_cst_30 : Ref sig .tc := ⟨.hbm, 277, rfl⟩
abbrev main_v128 : Ref sig .tc := ⟨.hbm, 278, rfl⟩
abbrev main_v129 : Ref sig .tc := ⟨.hbm, 279, rfl⟩
abbrev main_v130 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_v134 : Ref sig .tc := ⟨.hbm, 284, rfl⟩
abbrev main_v135 : Ref sig .tc := ⟨.hbm, 285, rfl⟩
abbrev main_v136 : Ref sig .tc := ⟨.hbm, 286, rfl⟩
abbrev main_v137 : Ref sig .tc := ⟨.hbm, 287, rfl⟩
abbrev main_v138 : Ref sig .tc := ⟨.hbm, 288, rfl⟩
abbrev main_v139 : Ref sig .tc := ⟨.hbm, 289, rfl⟩
abbrev main_v140 : Ref sig .tc := ⟨.hbm, 290, rfl⟩
abbrev main_v141 : Ref sig .tc := ⟨.hbm, 291, rfl⟩
abbrev main_v142 : Ref sig .tc := ⟨.hbm, 292, rfl⟩
abbrev main_c_31 : Ref sig .tc := ⟨.hbm, 293, rfl⟩
abbrev main_v143 : Ref sig .tc := ⟨.hbm, 294, rfl⟩
abbrev main_v144 : Ref sig .tc := ⟨.hbm, 295, rfl⟩
abbrev main_c_32 : Ref sig .tc := ⟨.hbm, 296, rfl⟩
abbrev main_v145 : Ref sig .tc := ⟨.hbm, 297, rfl⟩
abbrev main_v146 : Ref sig .tc := ⟨.hbm, 298, rfl⟩
abbrev main_v147 : Ref sig .tc := ⟨.hbm, 299, rfl⟩
abbrev main_c_33 : Ref sig .tc := ⟨.hbm, 300, rfl⟩
abbrev main_v148 : Ref sig .tc := ⟨.hbm, 301, rfl⟩
abbrev main_v149 : Ref sig .tc := ⟨.hbm, 302, rfl⟩
abbrev main_c_34 : Ref sig .tc := ⟨.hbm, 303, rfl⟩
abbrev main_v150 : Ref sig .tc := ⟨.hbm, 304, rfl⟩
abbrev main_v151 : Ref sig .tc := ⟨.hbm, 305, rfl⟩
abbrev main_v152 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩
abbrev main_v158 : Ref sig .tc := ⟨.hbm, 312, rfl⟩
abbrev main_v159 : Ref sig .tc := ⟨.hbm, 313, rfl⟩
abbrev main_v160 : Ref sig .tc := ⟨.hbm, 314, rfl⟩
abbrev main_cst_35 : Ref sig .tc := ⟨.hbm, 315, rfl⟩
abbrev main_v161 : Ref sig .tc := ⟨.hbm, 316, rfl⟩
abbrev main_v162 : Ref sig .tc := ⟨.hbm, 317, rfl⟩
abbrev main_v163 : Ref sig .tc := ⟨.hbm, 318, rfl⟩
abbrev main_cst_36 : Ref sig .tc := ⟨.hbm, 319, rfl⟩
abbrev main_v164 : Ref sig .tc := ⟨.hbm, 320, rfl⟩
abbrev main_v165 : Ref sig .tc := ⟨.hbm, 321, rfl⟩
abbrev main_cst_37 : Ref sig .tc := ⟨.hbm, 322, rfl⟩
abbrev main_v166 : Ref sig .tc := ⟨.hbm, 323, rfl⟩
abbrev main_v167 : Ref sig .tc := ⟨.hbm, 324, rfl⟩
abbrev main_cst_38 : Ref sig .tc := ⟨.hbm, 325, rfl⟩
abbrev main_v168 : Ref sig .tc := ⟨.hbm, 326, rfl⟩
abbrev main_v169 : Ref sig .tc := ⟨.hbm, 327, rfl⟩
abbrev main_cst_39 : Ref sig .tc := ⟨.hbm, 328, rfl⟩
abbrev main_c_40 : Ref sig .tc := ⟨.hbm, 329, rfl⟩
abbrev main_call8_v0 : Ref sig .tc := ⟨.hbm, 330, rfl⟩
abbrev main_call8_v1 : Ref sig .tc := ⟨.hbm, 331, rfl⟩
abbrev main_call8_v2 : Ref sig .tc := ⟨.hbm, 332, rfl⟩
abbrev main_call8_v3 : Ref sig .tc := ⟨.hbm, 333, rfl⟩
abbrev main_call8_v4 : Ref sig .tc := ⟨.hbm, 334, rfl⟩
abbrev main_v170 : Ref sig .tc := ⟨.hbm, 335, rfl⟩
abbrev main_v171 : Ref sig .tc := ⟨.hbm, 336, rfl⟩
abbrev main_v172 : Ref sig .tc := ⟨.hbm, 337, rfl⟩
abbrev main_c_41 : Ref sig .tc := ⟨.hbm, 338, rfl⟩
abbrev main_c_42 : Ref sig .tc := ⟨.hbm, 339, rfl⟩
abbrev main_call9_v0 : Ref sig .tc := ⟨.hbm, 340, rfl⟩
abbrev main_call9_v1 : Ref sig .tc := ⟨.hbm, 341, rfl⟩
abbrev main_call9_v2 : Ref sig .tc := ⟨.hbm, 342, rfl⟩
abbrev main_call9_v3 : Ref sig .tc := ⟨.hbm, 343, rfl⟩
abbrev main_call9_v4 : Ref sig .tc := ⟨.hbm, 344, rfl⟩
abbrev main_v173 : Ref sig .tc := ⟨.hbm, 345, rfl⟩
abbrev main_c_43 : Ref sig .tc := ⟨.hbm, 346, rfl⟩
abbrev main_v174 : Ref sig .tc := ⟨.hbm, 347, rfl⟩
abbrev main_v175 : Ref sig .tc := ⟨.hbm, 348, rfl⟩
abbrev main_v176 : Ref sig .tc := ⟨.hbm, 349, rfl⟩
abbrev main_v177 : Ref sig .tc := ⟨.hbm, 350, rfl⟩
abbrev main_v178 : Ref sig .tc := ⟨.hbm, 351, rfl⟩
abbrev main_call10_c : Ref sig .tc := ⟨.hbm, 352, rfl⟩
abbrev main_call10_v0 : Ref sig .tc := ⟨.hbm, 353, rfl⟩
abbrev main_call10_v1 : Ref sig .tc := ⟨.hbm, 354, rfl⟩
abbrev main_call10_c_0 : Ref sig .tc := ⟨.hbm, 355, rfl⟩
abbrev main_call10_v2 : Ref sig .tc := ⟨.hbm, 356, rfl⟩
abbrev main_call10_v3 : Ref sig .tc := ⟨.hbm, 357, rfl⟩
abbrev main_call10_v4 : Ref sig .tc := ⟨.hbm, 358, rfl⟩
abbrev main_call10_v5 : Ref sig .tc := ⟨.hbm, 359, rfl⟩
abbrev main_call10_c_1 : Ref sig .tc := ⟨.hbm, 360, rfl⟩
abbrev main_call10_c_2 : Ref sig .tc := ⟨.hbm, 361, rfl⟩
abbrev main_call10_v6 : Ref sig .tc := ⟨.hbm, 362, rfl⟩
abbrev main_call10_v7 : Ref sig .tc := ⟨.hbm, 363, rfl⟩
abbrev main_call10_v8 : Ref sig .tc := ⟨.hbm, 364, rfl⟩
abbrev main_call10_v9 : Ref sig .tc := ⟨.hbm, 365, rfl⟩
abbrev main_call10_v10 : Ref sig .tc := ⟨.hbm, 366, rfl⟩
abbrev main_call10_v11 : Ref sig .tc := ⟨.hbm, 367, rfl⟩
abbrev main_call10_c_3 : Ref sig .tc := ⟨.hbm, 368, rfl⟩
abbrev main_call10_v12 : Ref sig .tc := ⟨.hbm, 369, rfl⟩
abbrev main_call10_v13 : Ref sig .tc := ⟨.hbm, 370, rfl⟩
abbrev main_call10_v14 : Ref sig .tc := ⟨.hbm, 371, rfl⟩
abbrev main_call10_cst : Ref sig .tc := ⟨.hbm, 372, rfl⟩
abbrev main_call10_v15 : Ref sig .tc := ⟨.hbm, 373, rfl⟩
abbrev main_v179 : Ref sig .tc := ⟨.hbm, 374, rfl⟩
abbrev main_v180 : Ref sig .tc := ⟨.hbm, 375, rfl⟩
abbrev main_call11_c : Ref sig .tc := ⟨.hbm, 376, rfl⟩
abbrev main_call11_v0 : Ref sig .tc := ⟨.hbm, 377, rfl⟩
abbrev main_call11_v1 : Ref sig .tc := ⟨.hbm, 378, rfl⟩
abbrev main_call11_c_0 : Ref sig .tc := ⟨.hbm, 379, rfl⟩
abbrev main_call11_v2 : Ref sig .tc := ⟨.hbm, 380, rfl⟩
abbrev main_call11_v3 : Ref sig .tc := ⟨.hbm, 381, rfl⟩
abbrev main_call11_v4 : Ref sig .tc := ⟨.hbm, 382, rfl⟩
abbrev main_call11_v5 : Ref sig .tc := ⟨.hbm, 383, rfl⟩
abbrev main_call11_c_1 : Ref sig .tc := ⟨.hbm, 384, rfl⟩
abbrev main_call11_c_2 : Ref sig .tc := ⟨.hbm, 385, rfl⟩
abbrev main_call11_v6 : Ref sig .tc := ⟨.hbm, 386, rfl⟩
abbrev main_call11_v7 : Ref sig .tc := ⟨.hbm, 387, rfl⟩
abbrev main_call11_v8 : Ref sig .tc := ⟨.hbm, 388, rfl⟩
abbrev main_call11_v9 : Ref sig .tc := ⟨.hbm, 389, rfl⟩
abbrev main_call11_v10 : Ref sig .tc := ⟨.hbm, 390, rfl⟩
abbrev main_call11_v11 : Ref sig .tc := ⟨.hbm, 391, rfl⟩
abbrev main_call11_c_3 : Ref sig .tc := ⟨.hbm, 392, rfl⟩
abbrev main_call11_v12 : Ref sig .tc := ⟨.hbm, 393, rfl⟩
abbrev main_call11_v13 : Ref sig .tc := ⟨.hbm, 394, rfl⟩
abbrev main_call11_v14 : Ref sig .tc := ⟨.hbm, 395, rfl⟩
abbrev main_call11_cst : Ref sig .tc := ⟨.hbm, 396, rfl⟩
abbrev main_call11_v15 : Ref sig .tc := ⟨.hbm, 397, rfl⟩
abbrev main_v181 : Ref sig .tc := ⟨.hbm, 398, rfl⟩
abbrev main_cst_44 : Ref sig .tc := ⟨.hbm, 399, rfl⟩
abbrev main_v182 : Ref sig .tc := ⟨.hbm, 400, rfl⟩
abbrev main_v183 : Ref sig .tc := ⟨.hbm, 401, rfl⟩
abbrev main_v184 : Ref sig .tc := ⟨.hbm, 402, rfl⟩
abbrev main_v185 : Ref sig .tc := ⟨.hbm, 403, rfl⟩
abbrev main_v186 : Ref sig .tc := ⟨.hbm, 404, rfl⟩
abbrev main_v187 : Ref sig .tc := ⟨.hbm, 405, rfl⟩
abbrev main_v188 : Ref sig .tc := ⟨.hbm, 406, rfl⟩
abbrev main_v189 : Ref sig .tc := ⟨.hbm, 407, rfl⟩
abbrev main_v190 : Ref sig .tc := ⟨.hbm, 408, rfl⟩
abbrev main_v191 : Ref sig .tc := ⟨.hbm, 409, rfl⟩
abbrev main_v192 : Ref sig .tc := ⟨.hbm, 410, rfl⟩
abbrev main_v193 : Ref sig .tc := ⟨.hbm, 411, rfl⟩
abbrev main_v194 : Ref sig .tc := ⟨.hbm, 412, rfl⟩
abbrev main_v195 : Ref sig .tc := ⟨.hbm, 413, rfl⟩
abbrev main_v196 : Ref sig .tc := ⟨.hbm, 414, rfl⟩

abbrev nD : Nat := 1
abbrev τ : Topo := Topo.v7x

variable {F : FTy → Type} [FloatOps F]
-- ==== Proof.ResultRun.lean ====
/-
  The kernel program's run with its result array kept in the postcondition.

  The launch is over the program's five segments — the host operations before the first kernel, that kernel, the host
  operations between, the second kernel, the host operations after it — and the state after the last of them has every
  buffer at `W5`: this module reads the result array and the arguments there.
-/
module

public import proofs.«01_k».proof.Proof.Gen.KernelIdeal.Frame

@[expose] public section

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program from memory `m` with zero counters ends, with the result array at what the
    last boundary's contents `W5` hold there and every argument as it was launched. -/
theorem run : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.ResultRun

end
-- ==== Proof.Rounds.lean ====
/-
  The first kernel's ten rounds, as vector operations.

  Each round takes the largest similarity of every row, marks its first position, adds the value there to the
  sparse weights and lowers the similarity there to -1.  The body writes the ten rounds out; here a round is one
  function, the rounds are its iteration, and the body's stored values are shown to be the contraction of a line
  tensor with the normalised sparse weights after ten rounds.
-/
module

public import proofs.«01_k».proof.Proof.Gen.KernelIdeal.Frame
public import Idealize.ShloMosaic.Lib.Pipeline.Value

@[expose] public section

noncomputable section

namespace Cert.KernelIdeal.Rounds

open Cert.KernelIdeal Cert.KernelIdeal.Gen
open Idealize.ShloMosaic

variable {F : FTy → Type} [FloatOps F]

/-- Position numbers along a row. -/
def pos : IVec S4x1024 32 := iota .tc S4x1024 32 [1] iota_S4x1024_d1_w32

/-- The largest entry of every row, as a column. -/
def top (d : FVec F S4x1024 .f32) : FVec F S4x1 .f32 :=
  shapeCast S4x1 (multiReduction .maximumf [1] S4 d 0xFF800000#32 reduces_S4x1024_S4 (.inl rfl) rfl) shapeCasts_S4_S4x1

/-- The first position of the largest entry, per row. -/
def first (d : FVec F S4x1024 .f32) : IVec S4 32 :=
  multiReductionI .minsi [1] S4
    (select (cmpf .oeq d (broadcastTo S4x1024 (top d) broadcasts_S4x1_S4x1024)) pos (broadcast S4x1024 1024#32))
    2147483647#32 reduces_S4x1024_S4 rfl

/-- The mask that is set at the first position of the largest entry of every row. -/
def mark (d : FVec F S4x1024 .f32) : IVec S4x1024 1 :=
  cmpi .eq pos (broadcastTo S4x1024 (shapeCast S4x1 (first d) shapeCasts_S4_S4x1) broadcasts_S4x1_S4x1024)

/-- The similarities after a round: -1 at the marked position. -/
def lower (d : FVec F S4x1024 .f32) : FVec F S4x1024 .f32 :=
  select (mark d) (broadcast S4x1024 (Scalar.ofBits .f32 0xBF800000#32 : F .f32)) d

/-- The sparse weights after a round: the largest entry added at the marked position. -/
def gain (s d : FVec F S4x1024 .f32) : FVec F S4x1024 .f32 :=
  addf s (select (mark d) (broadcastTo S4x1024 (shapeCast S4x1 (top d) shapeCasts_S4x1_S4x1) broadcasts_S4x1_S4x1024)
    (broadcast S4x1024 (Scalar.ofBits .f32 0x00000000#32 : F .f32)))

/-- The similarities after `n` rounds. -/
def simil (d : FVec F S4x1024 .f32) : ℕ → FVec F S4x1024 .f32
  | 0 => d
  | n + 1 => lower (simil d n)

/-- The sparse weights after `n` rounds. -/
def sparse (d : FVec F S4x1024 .f32) : ℕ → FVec F S4x1024 .f32
  | 0 => broadcast S4x1024 (Scalar.ofBits .f32 0x00000000#32 : F .f32)
  | n + 1 => gain (sparse d n) (simil d n)

/-- The weights normalised: divided by their row's sum, or by a small constant where that is larger. -/
def normalised (s : FVec F S4x1024 .f32) : FVec F S1024x4 .bf16 :=
  truncf .bf16 (transpose S1024x4 [1, 0]
    (divf s (broadcastTo S4x1024 (maximumf
      (shapeCast S4x1 (multiReduction .add [1] S4 s 0x00000000#32 reduces_S4x1024_S4 (.inl rfl) rfl) shapeCasts_S4_S4x1)
      (broadcast S4x1 (Scalar.ofBits .f32 0x24E69595#32 : F .f32))) broadcasts_S4x1_S4x1024))
    transposes_S4x1024_p1_0_S1024x4) bitsLt_bf16_f32

/-- A line tensor's block contracted with weights. -/
def blend (f : Vec F S1x1024x1024 .f32) (w : FVec F S1024x4 .bf16) : FVec F S1x1024x4 .f32 :=
  shapeCast S1x1024x4 (matmul dot_S1024x1024_S1024x4_S1024x4_1_0_0_1_n_n none
    (truncf .bf16 (shapeCast S1024x1024 f shapeCasts_S1x1024x1024_S1024x1024) bitsLt_bf16_f32) w
    (constant S1024x4 .f32 0x00000000#32)) shapeCasts_S1024x4_S1x1024x4

section
variable (x0 : Vec F S1x4x4 .f32) (x1 : Vec F S1x4x1024 .f32) (x2 x3 x4 : Vec F S1x1024x1024 .f32)

/-- The similarities of a block's pose with its key points. -/
abbrev start : FVec F S4x1024 .f32 := k0_pay2 (View.ld x0 r0_0) (View.ld x1 r0_1)

/-- The similarities after one round. -/
theorem pay43_eq : k0_pay43 x0 x1 x2 x3 x4 = simil (start x0 x1) 1 := rfl
/-- The similarities after three rounds. -/
theorem pay44_eq : k0_pay44 x0 x1 x2 x3 x4 = simil (start x0 x1) 3 := by
  unfold k0_pay44; rw [pay43_eq]; rfl
/-- The mark of the fourth round. -/
theorem pay45_eq : k0_pay45 x0 x1 x2 x3 x4 = mark (simil (start x0 x1) 3) := by
  unfold k0_pay45; rw [pay43_eq]; rfl
/-- The similarities after six rounds. -/
theorem pay46_eq : k0_pay46 x0 x1 x2 x3 x4 = simil (start x0 x1) 6 := by
  unfold k0_pay46; rw [pay44_eq, pay45_eq]; rfl
/-- The first position of the largest entry in the seventh round. -/
theorem pay47_eq : k0_pay47 x0 x1 x2 x3 x4 = first (simil (start x0 x1) 6) := by
  unfold k0_pay47; rw [pay44_eq, pay45_eq]; rfl
/-- The weights after nine rounds. -/
theorem pay48_eq : k0_pay48 x0 x1 x2 x3 x4 = sparse (start x0 x1) 9 := by
  unfold k0_pay48; rw [pay43_eq, pay44_eq, pay45_eq, pay46_eq, pay47_eq]; rfl
/-- The similarities after nine rounds. -/
theorem pay49_eq : k0_pay49 x0 x1 x2 x3 x4 = simil (start x0 x1) 9 := by
  unfold k0_pay49; rw [pay46_eq, pay47_eq]; rfl
/-- The largest entry in the tenth round. -/
theorem pay50_eq : k0_pay50 x0 x1 x2 x3 x4 = top (simil (start x0 x1) 9) := by
  unfold k0_pay50; rw [pay46_eq, pay47_eq]; rfl
/-- The largest entry in the tenth round, along the row. -/
theorem pay51_eq : k0_pay51 x0 x1 x2 x3 x4 = broadcastTo S4x1024 (top (simil (start x0 x1) 9)) broadcasts_S4x1_S4x1024 := by
  unfold k0_pay51; rw [pay46_eq, pay47_eq]; rfl

/-- Three zeros. -/
theorem hz3 : (![0, 0, 0] : Fin 3 → Nat) = fun _ => 0 := funext fun a => by fin_cases a <;> rfl

/-- The normalised weights the body computes are those of ten rounds. -/
theorem pay38_eq : k0_pay38 (k0_pay42 x0 x1 x2 x3 x4) (k0_pay48 x0 x1 x2 x3 x4) (k0_pay49 x0 x1 x2 x3 x4)
    (k0_pay50 x0 x1 x2 x3 x4) (k0_pay51 x0 x1 x2 x3 x4) = normalised (sparse (start x0 x1) 10) := by
  rw [pay48_eq, pay49_eq, pay50_eq, pay51_eq]; rfl

/-- The first output block: the first line tensor's block contracted with the normalised weights. -/
theorem out5_eq : out0_5 x0 x1 x2 x3 x4 = blend (View.ld x2 r0_2) (normalised (sparse (start x0 x1) 10)) := by
  unfold out0_5
  rw [View.canon_unit_zero hz3, ← pay38_eq x0 x1 x2 x3 x4]; rfl

/-- The second output block, from the second line tensor's block. -/
theorem out6_eq : out0_6 x0 x1 x2 x3 x4 = blend (View.ld x3 r0_2) (normalised (sparse (start x0 x1) 10)) := by
  unfold out0_6
  rw [View.canon_unit_zero hz3, ← pay38_eq x0 x1 x2 x3 x4]; rfl

/-- The third output block, from the third line tensor's block. -/
theorem out7_eq : out0_7 x0 x1 x2 x3 x4 = blend (View.ld x4 r0_2) (normalised (sparse (start x0 x1) 10)) := by
  unfold out0_7
  rw [View.canon_unit_zero hz3, ← pay38_eq x0 x1 x2 x3 x4]; rfl
end

end Cert.KernelIdeal.Rounds

end
-- ==== Proof.TopPicks.lean ====
/-
  Taking the largest entry ten times is a stable sort's first ten positions.

  Over a row `d` of 1024 non-negative extended reals: a round takes the first position of the largest entry and lowers
  that entry to -1.  The positions taken are different, come in the order "larger entry first, earlier position first
  among equals", and come before every position left out; so they are the first positions of the stable sort by that
  order.  The weights collected on the way are the row's own entries at the positions taken.
-/
module

public import Idealize.ShloMosaic.Lib.Pointwise
public import Idealize.ShloMosaic.Lib.SortPrefix
public import Idealize.ShloMosaic.Lib.SortNet.Extract

@[expose] public section

noncomputable section

namespace TopPicks

open Idealize.ShloMosaic

/-- A row of entries. -/
abbrev Row := Fin 1024 → EReal

/-- The first position of the largest entry of a row exists. -/
theorem exists_best (d : Row) : ∃ p, (∀ q, d q ≤ d p) ∧ ∀ q < p, d q < d p := by
  classical
  obtain ⟨m, -, hm⟩ := Finset.exists_max_image Finset.univ d ⟨0, Finset.mem_univ _⟩
  let S : Finset (Fin 1024) := Finset.univ.filter fun q => d q = d m
  have hS : S.Nonempty := ⟨m, by simp [S]⟩
  have hmin := S.min'_mem hS
  have e : d (S.min' hS) = d m := by simpa [S] using hmin
  refine ⟨S.min' hS, fun q => e ▸ hm q (Finset.mem_univ _), fun q hq => ?_⟩
  rw [e]
  refine lt_of_le_of_ne (hm q (Finset.mem_univ _)) fun h => ?_
  exact absurd (S.min'_le q (by simp [S, h])) (not_le.mpr hq)

/-- The first position of the largest entry of a row. -/
def best (d : Row) : Fin 1024 := (exists_best d).choose

/-- No entry is larger than the best. -/
theorem le_best (d : Row) (q : Fin 1024) : d q ≤ d (best d) := (exists_best d).choose_spec.1 q
/-- An entry before the best is smaller. -/
theorem lt_best (d : Row) (q : Fin 1024) (h : q < best d) : d q < d (best d) := (exists_best d).choose_spec.2 q h

/-- The largest entry of a row, as the fold of `max` from the bottom element. -/
theorem fold_max_eq (d : Row) : Finset.fold max (⊥ : EReal) d Finset.univ = d (best d) :=
  le_antisymm (Finset.fold_max_le _ |>.mpr ⟨bot_le, fun q _ => le_best d q⟩)
    (Finset.le_fold_max _ |>.mpr (Or.inr ⟨best d, Finset.mem_univ _, le_rfl⟩))

/-- A minimum over position words, where positions without a property count as 1024, is the first position with it. -/
theorem fold_first (P : Fin 1024 → Prop) [DecidablePred P] (p : Fin 1024) (hp : P p) (hq : ∀ q < p, ¬ P q) :
    Finset.fold IntOp.minsi (2147483647#32) (fun x : Fin 1024 => if P x then BitVec.ofNat 32 x.val else 1024#32) Finset.univ
      = BitVec.ofNat 32 p.val := by
  have hval : ∀ x : Fin 1024, (BitVec.ofNat 32 x.val).toInt = x.val := fun x => by
    rw [BitVec.toInt_eq_toNat_cond, BitVec.toNat_ofNat]
    have := x.isLt
    rw [Nat.mod_eq_of_lt (by omega), if_pos (by omega)]
  apply BitVec.eq_of_toInt_eq
  have h := Finset.fold_hom (op := IntOp.minsi) (op' := (min : ℤ → ℤ → ℤ)) (s := Finset.univ)
    (m := fun b : BitVec 32 => b.toInt) (b := 2147483647#32)
    (f := fun x : Fin 1024 => if P x then BitVec.ofNat 32 x.val else 1024#32) (fun a b => SortNet.toInt_minsi a b)
  rw [← h, hval]
  have h1 : ((1024#32 : BitVec 32)).toInt = 1024 := by decide
  have h2 : ((2147483647#32 : BitVec 32)).toInt = 2147483647 := by decide
  have hp' := p.isLt
  refine le_antisymm ((Finset.fold_min_le _).mpr (Or.inr ⟨p, Finset.mem_univ _, ?_⟩)) ((Finset.le_fold_min _).mpr ⟨?_, fun x _ => ?_⟩)
  · rw [if_pos hp, hval]
  · rw [h2]; omega
  · split
    · rename_i hx
      rw [hval]
      by_contra hlt
      exact hq x (by rw [Fin.lt_def]; omega) hx
    · rw [h1]; omega

/-- The row after `n` rounds. -/
def sim (d : Row) : ℕ → Row
  | 0 => d
  | n + 1 => fun q => if q = best (sim d n) then -1 else sim d n q

/-- The position taken in round `n`. -/
def pick (d : Row) (n : ℕ) : Fin 1024 := best (sim d n)

/-- The weights collected before round `n`. -/
def acc (d : Row) : ℕ → Row
  | 0 => fun _ => 0
  | n + 1 => fun q => acc d n q + if q = pick d n then sim d n (pick d n) else 0

/-- A position not taken yet keeps its entry. -/
theorem sim_of_not (d : Row) (n : ℕ) (q : Fin 1024) (h : ∀ s < n, pick d s ≠ q) : sim d n q = d q := by
  induction n with
  | zero => rfl
  | succ n ih =>
    show (if q = pick d n then (-1 : EReal) else sim d n q) = d q
    rw [if_neg fun e => h n (Nat.lt_succ_self n) e.symm, ih fun s hs => h s (Nat.lt_succ_of_lt hs)]

/-- A position taken before holds -1. -/
theorem sim_of_taken (d : Row) (n s : ℕ) (h : s < n) : sim d n (pick d s) = -1 := by
  induction n with
  | zero => omega
  | succ n ih =>
    show (if pick d s = pick d n then (-1 : EReal) else sim d n (pick d s)) = -1
    split
    · rfl
    · rename_i hne
      have : s ≠ n := fun e => hne (by rw [e])
      exact ih (by omega)

variable {d : Row} (hd : ∀ q, 0 ≤ d q)

/-- Before the last position is taken, some position is free. -/
theorem exists_free (d : Row) (n : ℕ) (hn : n < 1024) : ∃ q, ∀ s < n, pick d s ≠ q := by
  classical
  by_contra hcon
  push Not at hcon
  have hsub : (Finset.univ : Finset (Fin 1024)) ⊆ (Finset.range n).image (pick d) := fun q _ => by
    obtain ⟨s, hs, e⟩ := hcon q
    exact Finset.mem_image.mpr ⟨s, Finset.mem_range.mpr hs, e⟩
  have := (Finset.card_le_card hsub).trans Finset.card_image_le
  simp at this
  omega

include hd in
/-- A round takes a position not taken before. -/
theorem pick_new (n : ℕ) (hn : n < 1024) (s : ℕ) (hs : s < n) : pick d s ≠ pick d n := by
  intro e
  obtain ⟨q, hq⟩ := exists_free d n hn
  have h1 := le_best (sim d n) q
  rw [sim_of_not d n q hq] at h1
  have h2 : sim d n (best (sim d n)) = -1 := by
    have := sim_of_taken d n s hs
    rwa [e] at this
  rw [h2] at h1
  have h3 : (0 : EReal) ≤ -1 := (hd q).trans h1
  exact absurd h3 (by simp)

include hd in
/-- The entry at the position a round takes is the row's own. -/
theorem sim_pick (n : ℕ) (hn : n < 1024) : sim d n (pick d n) = d (pick d n) :=
  sim_of_not d n _ fun s hs => pick_new hd n hn s hs

include hd in
/-- Ten rounds take ten different positions. -/
theorem pick_injective : Function.Injective fun r : Fin 10 => pick d r.val := by
  intro a b e
  rcases Nat.lt_trichotomy a.val b.val with h | h | h
  · exact absurd e (pick_new hd b.val (by omega) a.val h)
  · exact Fin.ext h
  · exact absurd e.symm (pick_new hd a.val (by omega) b.val h)

/-- "Larger entry first, earlier position first among equals". -/
def before (d : Row) (p q : Fin 1024) : Bool := decide (d q < d p) || (decide (d p = d q) && decide (p < q))

/-- The order is strict and total. -/
theorem before_strict (d : Row) : StrictTotalBefore (before d) :=
  StrictTotalBefore.of_key_then_position (fun a b : EReal => decide (b < a)) d (by simp)
    (fun a b c h h' => by simp only [decide_eq_true_eq] at *; exact h'.trans h)
    (fun a b => by simp only [decide_eq_true_eq]; rcases lt_trichotomy a b with h | h | h <;> simp [h])

include hd in
/-- A position not taken before round `n` is not before the one round `n` takes. -/
theorem not_before_pick (n : ℕ) (hn : n < 1024) (q : Fin 1024) (hq : ∀ s < n, pick d s ≠ q) :
    before d q (pick d n) = false := by
  have h1 : d q ≤ d (pick d n) := by
    have := le_best (sim d n) q
    rw [sim_of_not d n q hq] at this
    exact this.trans (le_of_eq (sim_pick hd n hn))
  have h2 : q < pick d n → d q < d (pick d n) := fun h => by
    have := lt_best (sim d n) q h
    rw [sim_of_not d n q hq] at this
    exact this.trans_eq (sim_pick hd n hn)
  simp only [before, Bool.or_eq_false_iff, Bool.and_eq_false_iff, decide_eq_false_iff_not, not_lt]
  refine ⟨h1, ?_⟩
  by_cases h : q < pick d n
  · exact Or.inl (h2 h).ne
  · exact Or.inr (not_lt.mp h)

/-- A stable insertion sort of increasing positions by "larger entry" is the one by `before`. -/
theorem stableSort_eq (d : Row) (l : List (Fin 1024)) (hl : l.Pairwise (· < ·)) :
    stableSort (fun k k' => decide (d k' < d k)) l = stableSort (before d) l := by
  induction l with
  | nil => rfl
  | cons a l ih =>
    rw [List.pairwise_cons] at hl
    unfold stableSort
    rw [ih hl.2]
    refine insertBefore_congr _ _ a _ fun b hb => ?_
    have hab : a < b := hl.1 b ((perm_stableSort (before d) l).mem_iff.mp hb)
    simp [before, not_lt.mpr hab.le]

include hd in
/-- The stable sort's first ten positions are the ones the rounds take. -/
theorem sortedFrom_eq_pick (r : Fin 10) (R : Fin 1024 → Fin 1024 → Bool) (hR : ∀ k k', R k k' = decide (d k' < d k)) :
    sortedFrom R (r.castLE (by omega : 10 ≤ 1024)) = pick d r.val := by
  have e : sortPositions 1024 R = sortPositions 1024 (before d) := by
    rw [show R = fun k k' => decide (d k' < d k) from funext fun k => funext fun k' => hR k k']
    exact stableSort_eq d _ (List.pairwise_lt_finRange 1024)
  have e' : sortedFrom R = sortedFrom (before d) := funext fun k => by
    simp only [sortedFrom, List.get_eq_getElem, e, Fin.val_cast]
  rw [e']
  refine (before_strict d).sortedFrom_eq_of_prefix (by omega) (fun r : Fin 10 => pick d r.val) (pick_injective hd) ?_ ?_ r
  · intro i j hij
    exact not_before_pick hd i.val (by omega) _ fun s hs => (pick_new hd j.val (by omega) s (by
      have : i.val < j.val := hij
      omega))
  · intro i p hp
    exact not_before_pick hd i.val (by omega) p fun s hs => hp ⟨s, by omega⟩

include hd in
/-- The weights collected before round `n`, as a sum over the rounds. -/
theorem acc_eq (n : ℕ) (hn : n ≤ 1024) (q : Fin 1024) :
    acc d n q = ∑ s ∈ Finset.range n, if q = pick d s then d (pick d s) else 0 := by
  induction n with
  | zero => rfl
  | succ n ih =>
    rw [Finset.sum_range_succ, ← ih (by omega)]
    show acc d n q + _ = _
    rw [sim_pick hd n (by omega)]

include hd in
/-- A sum over a row of terms that vanish where no weight was collected is the sum over the ten positions taken. -/
theorem sum_acc (g : Fin 1024 → EReal → EReal) (hg : ∀ q, g q 0 = 0) :
    ∑ q, g q (acc d 10 q) = ∑ r : Fin 10, g (pick d r.val) (d (pick d r.val)) := by
  classical
  have hacc : ∀ q, acc d 10 q = ∑ r : Fin 10, if q = pick d r.val then d (pick d r.val) else 0 := fun q => by
    rw [acc_eq hd 10 (by decide) q, Finset.sum_range]
  have hat : ∀ r : Fin 10, acc d 10 (pick d r.val) = d (pick d r.val) := fun r => by
    rw [hacc, Finset.sum_eq_single r, if_pos rfl]
    · exact fun s _ hs => if_neg fun e => hs (pick_injective hd e.symm)
    · exact fun h => absurd (Finset.mem_univ r) h
  have himg : ∑ r : Fin 10, g (pick d r.val) (d (pick d r.val))
      = ∑ q ∈ Finset.univ.image (fun r : Fin 10 => pick d r.val), g q (acc d 10 q) := by
    rw [Finset.sum_image fun a _ b _ e => pick_injective hd e]
    exact Finset.sum_congr rfl fun r _ => by rw [hat]
  rw [himg]
  refine (Finset.sum_subset (Finset.subset_univ _) fun q _ hq => ?_).symm
  rw [hacc, Finset.sum_eq_zero, hg]
  intro r _
  exact if_neg fun e => hq (Finset.mem_image.mpr ⟨r, Finset.mem_univ _, e.symm⟩)

end TopPicks

end
-- ==== Proof.Literals.lean ====
/-
  The programs' float literals as extended reals.
-/
module

public import Idealize.ShloMosaic.Lib.IdealHost

@[expose] public section

noncomputable section

namespace Literals

open Idealize.ShloMosaic

/-- Minus infinity. -/
theorem negInf : Ideal.ofBits .f32 0xFF800000#32 = (⊥ : EReal) := by
  simp [Ideal.ofBits, Ideal.ieee]

/-- Minus one. -/
theorem negOne : Ideal.ofBits .f32 0xBF800000#32 = (-1 : EReal) := by
  rw [show (-1 : EReal) = ((-(1 : ℝ) : ℝ) : EReal) by rw [EReal.coe_neg]; rfl]
  simp [Ideal.ofBits, Ideal.ieee, -EReal.coe_mul, -EReal.coe_neg]; norm_num

/-- One half. -/
theorem half : Ideal.ofBits .f32 0x3F000000#32 = (((1 / 2 : ℝ)) : EReal) := by
  simp [Ideal.ofBits, Ideal.ieee, -EReal.coe_mul]; norm_num

/-- Two. -/
theorem two : Ideal.ofBits .f32 0x40000000#32 = ((2 : ℝ) : EReal) := by
  simp [Ideal.ofBits, Ideal.ieee, -EReal.coe_mul]; norm_num

/-- Sixty-three. -/
theorem sixtyThree : Ideal.ofBits .f32 0x427C0000#32 = ((63 : ℝ) : EReal) := by
  simp [Ideal.ofBits, Ideal.ieee, -EReal.coe_mul]; norm_num

/-- The floor under the weights' sum is positive. -/
theorem floor_pos : (0 : EReal) < Ideal.ofBits .f32 0x24E69595#32 := by
  rw [show (0 : EReal) = ((0 : ℝ) : EReal) by norm_cast]
  simp [Ideal.ofBits, Ideal.ieee, -EReal.coe_mul, -EReal.coe_zero]

end Literals

end
-- ==== Proof.Lines.lean ====
/-
  The feature lines, as plain mathematics: for a batch entry and a joint, the key points' similarities to the pose, and
  the mixture of the ten nearest key points' line tables.
-/
module

public import proofs.«01_k».proof.Proof.TopPicks
public import proofs.«01_k».proof.Proof.Literals
public import Idealize.ShloMosaic.Lib.Pointwise

@[expose] public section

noncomputable section

namespace TopPicks

open Idealize.ShloMosaic

/-- The floor under the weights' sum. -/
abbrev floorW : EReal := Ideal.ofBits .f32 0x24E69595#32

/-- The sum of the ten largest entries, or the floor where that is larger. -/
def total (d : Row) : EReal := max (∑ r : Fin 10, d (pick d r.val)) floorW

/-- The total is not zero. -/
theorem total_ne_zero (d : Row) : total d ≠ 0 := (Literals.floor_pos.trans_le (le_max_right _ _)).ne'

/-- The values at the ten largest entries, weighted by the entries over their total. -/
def mixture (d : Row) (f : Row) : EReal := ∑ r : Fin 10, f (pick d r.val) * Ideal.div (d (pick d r.val)) (total d)

/-- A row of non-negative entries: the absolute value of a four-term product sum at every position. -/
def similarity (q : Fin 4 → EReal) (p : Fin 1024 → Fin 4 → EReal) : Row := fun n =>
  max (q 0 * p n 0 + q 1 * p n 1 + q 2 * p n 2 + q 3 * p n 3) (-(q 0 * p n 0 + q 1 * p n 1 + q 2 * p n 2 + q 3 * p n 3))

/-- A similarity is not negative. -/
theorem similarity_nonneg (q : Fin 4 → EReal) (p : Fin 1024 → Fin 4 → EReal) (n : Fin 1024) : 0 ≤ similarity q p n := by
  unfold similarity
  rcases le_total 0 (q 0 * p n 0 + q 1 * p n 1 + q 2 * p n 2 + q 3 * p n 3) with h | h
  · exact h.trans (le_max_left _ _)
  · exact (EReal.neg_nonneg.mpr h).trans (le_max_right _ _)

/-- The similarities of pose `(b, j)` with joint `j`'s key points. -/
def poseSim (q : FVec Ideal ⟨3, ![4, 24, 4]⟩ .f32) (p : FVec Ideal ⟨3, ![24, 1024, 4]⟩ .f32) (b : Fin 4) (j : Fin 24) : Row :=
  similarity (fun e => q (ix3 b j e)) fun n e => p (ix3 j n e)

/-- A pose's similarity is not negative. -/
theorem poseSim_nonneg (q : FVec Ideal ⟨3, ![4, 24, 4]⟩ .f32) (p : FVec Ideal ⟨3, ![24, 1024, 4]⟩ .f32) (b : Fin 4)
    (j : Fin 24) (n : Fin 1024) : 0 ≤ poseSim q p b j n := similarity_nonneg _ _ n

/-- Line entry `l` of channel `k` for pose `(b, j)`: the table's entries at the ten nearest key points, mixed. -/
def line (q : FVec Ideal ⟨3, ![4, 24, 4]⟩ .f32) (p : FVec Ideal ⟨3, ![24, 1024, 4]⟩ .f32)
    (f : FVec Ideal ⟨4, ![24, 1024, 64, 16]⟩ .f32) (b : Fin 4) (j : Fin 24) (l : Fin 64) (k : Fin 16) : EReal :=
  mixture (poseSim q p b j) fun n => f (ix4 j n l k)

/-- The number of line cells, 63, over an axis' extent. -/
def scale (lo hi : EReal) : EReal := Ideal.div (Ideal.ofBits .f32 0x427C0000#32) (hi - lo)

/-- The table of an axis, of the three. -/
def axisTable (x y z : FVec Ideal ⟨4, ![24, 1024, 64, 16]⟩ .f32) : Fin 3 → FVec Ideal ⟨4, ![24, 1024, 64, 16]⟩ .f32
  | 0 => x
  | 1 => y
  | 2 => z

end TopPicks

end
-- ==== Proof.BlockLines.lean ====
/-
  What one block of the first kernel computes, element by element.

  The similarities of a pose with its 1024 key points are a row of non-negative extended reals; the ten rounds are the
  rounds of `TopPicks` on that row; and an element of an output block is a sum over the ten positions taken.
-/
module

public import proofs.«01_k».proof.Proof.Rounds
public import proofs.«01_k».proof.Proof.Lines

@[expose] public section

set_option maxRecDepth 16384

noncomputable section

namespace Cert.KernelIdeal.Rounds

open Cert.KernelIdeal Cert.KernelIdeal.Gen
open Idealize.ShloMosaic TopPicks

/-- Row `b` of a block of similarities or weights. -/
abbrev row (v : FVec Ideal S4x1024 .f32) (b : Fin 4) : Row := fun p => v (ix2 b p)

/-- The largest entry of a row, as the block computes it. -/
theorem top_apply (d : FVec Ideal S4x1024 .f32) (b : Fin 4) : top d (ix2 b 0) = row d b (best (row d b)) := by
  refine Eq.trans ?_ (fold_max_eq (row d b))
  rw [← Literals.negInf]
  pointwise [top]

/-- Its first position, as a word. -/
theorem first_apply (d : FVec Ideal S4x1024 .f32) (b : Fin 4) :
    first d (ix1 b) = BitVec.ofNat 32 (best (row d b)).val := by
  pointwise [first, pos]
  rw [top_apply]
  exact fold_first _ _ rfl fun q hq => (lt_best (row d b) q hq).ne

/-- The mark is set at that position alone. -/
theorem mark_apply (d : FVec Ideal S4x1024 .f32) (b : Fin 4) (p : Fin 1024) :
    mark d (ix2 b p) = BitVec.ofBool (decide (p = best (row d b))) := by
  pointwise [mark, pos]
  rw [first_apply]
  show BitVec.ofBool (_ == _) = _
  congr 1
  rw [Bool.eq_iff_iff, beq_iff_eq, decide_eq_true_eq]
  constructor
  · intro h
    have h' := congrArg BitVec.toNat h
    rw [BitVec.toNat_ofNat, BitVec.toNat_ofNat] at h'
    exact Fin.ext (by have := p.isLt; have := (best (row d b)).isLt; omega)
  · intro h; rw [← h]

/-- A choice by a decided proposition. -/
theorem select_ofBool {α : Type} (c : Prop) [Decidable c] (x y : α) :
    Scalar.select (BitVec.ofBool (decide c)) x y = if c then x else y := by
  by_cases h : c <;> simp [h, Scalar.select]

/-- A round on a block is a round on each of its rows. -/
theorem row_lower (d : FVec Ideal S4x1024 .f32) (b : Fin 4) :
    row (lower d) b = fun q => if q = best (row d b) then -1 else row d b q := by
  funext q
  pointwise [lower]
  rw [mark_apply, select_ofBool, Literals.negOne]

/-- A round adds the largest entry to the weights at the position taken. -/
theorem row_gain (s d : FVec Ideal S4x1024 .f32) (b : Fin 4) :
    row (gain s d) b = fun q => row s b q + if q = best (row d b) then row d b (best (row d b)) else 0 := by
  funext q
  pointwise [gain]
  rw [mark_apply, select_ofBool, top_apply]

/-- The rounds on a block are the rounds on each of its rows. -/
theorem row_simil (d : FVec Ideal S4x1024 .f32) (b : Fin 4) (n : ℕ) : row (simil d n) b = sim (row d b) n := by
  induction n with
  | zero => rfl
  | succ n ih =>
    show row (lower (simil d n)) b = _
    rw [row_lower, ih]; rfl

/-- The block's weights are those that the rounds collect. -/
theorem row_sparse (d : FVec Ideal S4x1024 .f32) (b : Fin 4) (n : ℕ) : row (sparse d n) b = acc (row d b) n := by
  induction n with
  | zero => funext q; pointwise [row, sparse, acc]
  | succ n ih =>
    show row (gain (sparse d n) (simil d n)) b = _
    rw [row_gain, ih, row_simil]; rfl

/-- Zero over what is not zero is zero. -/
theorem div_zero_left (y : EReal) (hy : y ≠ 0) : Ideal.div 0 y = 0 := by
  unfold Ideal.div; rw [if_neg hy, zero_mul]

/-- An element of an output block: the line values at the ten positions taken, weighted. -/
theorem blend_apply (f : Vec Ideal S1x1024x1024 .f32) (d : FVec Ideal S4x1024 .f32) (b : Fin 4) (q : Fin 1024)
    (hd : ∀ p, 0 ≤ row d b p) :
    blend (View.ld f r0_2) (normalised (sparse d 10)) (ix3 0 q b) = mixture (row d b) fun p => f (ix3 0 q p) := by
  have hrow : ∀ p, sparse d 10 (ix2 b p) = acc (row d b) 10 p := fun p => congrFun (row_sparse d b 10) p
  pointwise [blend, normalised]
  simp only [hrow]
  rw [sum_acc hd (fun _ v => v) fun _ => rfl]
  exact sum_acc hd (fun p v => f (ix3 0 q p) * Ideal.div v (total (row d b)))
    fun p => by rw [div_zero_left _ (total_ne_zero _), mul_zero]

/-- The similarities of a block, element by element. -/
theorem row_start (x0 : Vec Ideal S1x4x4 .f32) (x1 : Vec Ideal S1x4x1024 .f32) (b : Fin 4) :
    row (start x0 x1) b = similarity (fun e => x0 (ix3 0 b e)) fun p e => x1 (ix3 0 e p) := by
  funext p
  pointwise [row, start, k0_pay2, similarity]
  rfl

section
variable (x0 : Vec Ideal S1x4x4 .f32) (x1 : Vec Ideal S1x4x1024 .f32) (x2 x3 x4 : Vec Ideal S1x1024x1024 .f32)
  (b : Fin 4) (q : Fin 1024)

/-- The product of a table block with the block's weights is the mixture of its entries at the ten nearest key points. -/
theorem blend_start (f : Vec Ideal S1x1024x1024 .f32) :
    blend (View.ld f r0_2) (normalised (sparse (start x0 x1) 10)) (ix3 0 q b)
      = mixture (similarity (fun e => x0 (ix3 0 b e)) fun p e => x1 (ix3 0 e p)) fun p => f (ix3 0 q p) := by
  rw [blend_apply f _ b q (by rw [row_start]; exact similarity_nonneg _ _), row_start]

/-- An element of the first output block. -/
theorem out5_apply : out0_5 x0 x1 x2 x3 x4 (ix3 0 q b)
    = mixture (similarity (fun e => x0 (ix3 0 b e)) fun p e => x1 (ix3 0 e p)) fun p => x2 (ix3 0 q p) := by
  rw [out5_eq, blend_start]

/-- An element of the second output block. -/
theorem out6_apply : out0_6 x0 x1 x2 x3 x4 (ix3 0 q b)
    = mixture (similarity (fun e => x0 (ix3 0 b e)) fun p e => x1 (ix3 0 e p)) fun p => x3 (ix3 0 q p) := by
  rw [out6_eq, blend_start]

/-- An element of the third output block. -/
theorem out7_apply : out0_7 x0 x1 x2 x3 x4 (ix3 0 q b)
    = mixture (similarity (fun e => x0 (ix3 0 b e)) fun p e => x1 (ix3 0 e p)) fun p => x4 (ix3 0 q p) := by
  rw [out7_eq, blend_start]

end

end Cert.KernelIdeal.Rounds

end
-- ==== Proof.LineArrays.lean ====
/-
  What the first kernel leaves in its three result arrays, element by element, from the arrays it is handed.

  Grid point `t` reads slab `t` of every input and writes slab `t` of every output, so the arrays are the block values
  (`BlockLines`) put side by side.
-/
module

public import proofs.«01_k».proof.Proof.BlockLines
public import proofs.«01_k».proof.Proof.Gen.KernelIdeal.Frame
public import Idealize.ShloMosaic.Lib.Pipeline.ValueKit

@[expose] public section

set_option maxRecDepth 16384

noncomputable section

namespace Cert.KernelIdeal.LineArrays

open Cert.KernelIdeal Cert.KernelIdeal.Gen
open Idealize.ShloMosaic TopPicks
open Idealize.ShloMosaic.Pipeline (Dat)

variable (V : (c : Dev nD) → (b : Ref sig .tc) → Buf (Elt Ideal) ((c.tc : Thread nD τ).loc b)) (c : Dev nD)

/-- The interpolated lines of a slab-major table `f`: entry `(j, r, b)` mixes row `r` of slab `j` by the similarities
    of pose `b`. -/
def lines (q : Vec Ideal S24x4x4 .f32) (p : Vec Ideal S24x4x1024 .f32) (f : Vec Ideal S24x1024x1024 .f32) :
    Vec Ideal S24x1024x4 .f32 := fun i =>
  mixture (similarity (fun e => q (ix3 (i 0) (i 2) e)) fun n e => p (ix3 (i 0) e n)) fun n => f (ix3 (i 0) (i 1) n)

/-- Grid point `t` as a slab index. -/
abbrev slab (t : Fin cfg0.N) : Fin 24 := ⟨t.val, N_0 ▸ t.isLt⟩

/-- Every window's block at grid point `t` is slab `t`. -/
theorem index_eq : ∀ t : Fin cfg0.N, (win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0]) :=
  (by decide +kernel : ∀ t : Fin grid0.N, _)

/-- The poses' block of a grid step. -/
theorem blk0 (t : Fin cfg0.N) (b e : Fin 4) : iblk0 V c 0 t (ix3 0 b e) = V c main_v0 (ix3 (slab t) b e) := by
  blk_ext! [iblk0, (index_eq t).1]

/-- The key points' block of a grid step. -/
theorem blk1 (t : Fin cfg0.N) (e : Fin 4) (p : Fin 1024) :
    iblk0 V c 1 t (ix3 0 e p) = V c main_v1 (ix3 (slab t) e p) := by
  blk_ext! [iblk0, (index_eq t).2.1]

/-- The first table's block of a grid step. -/
theorem blk2 (t : Fin cfg0.N) (r p : Fin 1024) : iblk0 V c 2 t (ix3 0 r p) = V c main_v3 (ix3 (slab t) r p) := by
  blk_ext! [iblk0, (index_eq t).2.2.1]

/-- The second table's block of a grid step. -/
theorem blk3 (t : Fin cfg0.N) (r p : Fin 1024) : iblk0 V c 3 t (ix3 0 r p) = V c main_v5 (ix3 (slab t) r p) := by
  blk_ext! [iblk0, (index_eq t).2.2.2.1]

/-- The third table's block of a grid step. -/
theorem blk4 (t : Fin cfg0.N) (r p : Fin 1024) : iblk0 V c 4 t (ix3 0 r p) = V c main_v7 (ix3 (slab t) r p) := by
  blk_ext! [iblk0, (index_eq t).2.2.2.2.1]

/-- An index of a one-slab block is its row and its column. -/
theorem eq_block_index (y : S1x1024x4.Idx) : ∃ (r : Fin 1024) (b : Fin 4), y = ix3 0 r b :=
  ⟨y 1, y 2, by blk_ext⟩

/-- The first result array: the lines of the first table. -/
theorem arr5 : (dat0 V c).arrAt 5 cfg0.N = lines (V c main_v0) (V c main_v1) (V c main_v3) := by
  refine (dat0 V c).arrAt_eq_of_covers 5 _ (by decide +kernel) fun t hf y => ?_
  blk_simp
  rw [after0_5]
  obtain ⟨r, b, rfl⟩ := eq_block_index y
  have e : (win0_5.blk t).view.emb (ix3 0 r b) = ix3 (slab t) r b := by blk_ext [(index_eq t).2.2.2.2.2.1]
  refine ((Rounds.out5_apply _ _ _ _ _ b r).trans ?_).trans (congrArg (lines (V c main_v0) (V c main_v1) (V c main_v3)) e.symm)
  simp only [blk0, blk1, blk2]
  rfl

/-- The second result array: the lines of the second table. -/
theorem arr6 : (dat0 V c).arrAt 6 cfg0.N = lines (V c main_v0) (V c main_v1) (V c main_v5) := by
  refine (dat0 V c).arrAt_eq_of_covers 6 _ (by decide +kernel) fun t hf y => ?_
  blk_simp
  rw [after0_6]
  obtain ⟨r, b, rfl⟩ := eq_block_index y
  have e : (win0_6.blk t).view.emb (ix3 0 r b) = ix3 (slab t) r b := by blk_ext [(index_eq t).2.2.2.2.2.2.1]
  refine ((Rounds.out6_apply _ _ _ _ _ b r).trans ?_).trans (congrArg (lines (V c main_v0) (V c main_v1) (V c main_v5)) e.symm)
  simp only [blk0, blk1, blk3]
  rfl

/-- The third result array: the lines of the third table. -/
theorem arr7 : (dat0 V c).arrAt 7 cfg0.N = lines (V c main_v0) (V c main_v1) (V c main_v7) := by
  refine (dat0 V c).arrAt_eq_of_covers 7 _ (by decide +kernel) fun t hf y => ?_
  blk_simp
  rw [after0_7]
  obtain ⟨r, b, rfl⟩ := eq_block_index y
  have e : (win0_7.blk t).view.emb (ix3 0 r b) = ix3 (slab t) r b := by blk_ext [(index_eq t).2.2.2.2.2.2.2]
  refine ((Rounds.out7_apply _ _ _ _ _ b r).trans ?_).trans (congrArg (lines (V c main_v0) (V c main_v1) (V c main_v7)) e.symm)
  simp only [blk0, blk1, blk4]
  rfl

end Cert.KernelIdeal.LineArrays

end
-- ==== Proof.HostReads.lean ====
/-
  The arrays the two kernels are handed, element by element, as entries of the program's arguments: the first kernel's
  operands are arguments re-laid; the second's are the first's results re-laid, the axes' origins and scales, and the
  query points.
-/
module

public import proofs.«01_k».proof.Proof.LineArrays
public import Idealize.ShloMosaic.Lib.StableHlo.ReadAt

@[expose] public section

set_option maxRecDepth 16384

noncomputable section

namespace Cert.KernelIdeal.HostReads

open Cert.KernelIdeal Cert.KernelIdeal.Gen
open Idealize.ShloMosaic TopPicks

variable (m : (ℓ : Loc nD τ sig) → Buf (Elt Ideal) ℓ) (ρ : Dev nD → PrngReg) (c : Dev nD)

/-- The row of a table block that line entry `l` of channel `k` sits in. -/
abbrev lineRow (l : Fin 64) (k : Fin 16) : Fin 1024 := ⟨l.val * 16 + k.val, by omega⟩

/-- The line entry of a row of the table. -/
theorem lineRow_div (l : Fin 64) (k : Fin 16) (h) : (⟨(l.val * 16 + k.val) / 16, h⟩ : Fin 64) = l := Fin.ext (by show _ / _ = _; omega)
/-- The channel of a row of the table. -/
theorem lineRow_mod (l : Fin 64) (k : Fin 16) (h) : (⟨(l.val * 16 + k.val) % 16, h⟩ : Fin 16) = k := Fin.ext (by show _ % _ = _; omega)

/-- The poses, joint first. -/
theorem v0_apply (j : Fin 24) (b e : Fin 4) :
    V1 m ρ c main_v0 (ix3 j b e) = m ((c.tc : Thread nD τ).loc main_arg1) (ix3 b j e) := by
  show StableHlo.after hostOps0 (W0 m ρ c) (Proc.devRef .tc main_v0) (ix3 j b e) = _
  after_reads_at

/-- The key points, component first. -/
theorem v1_apply (j : Fin 24) (e : Fin 4) (p : Fin 1024) :
    V1 m ρ c main_v1 (ix3 j e p) = m ((c.tc : Thread nD τ).loc main_arg5) (ix3 j p e) := by
  show StableHlo.after hostOps0 (W0 m ρ c) (Proc.devRef .tc main_v1) (ix3 j e p) = _
  after_reads_at

section
variable (j : Fin 24) (l : Fin 64) (k : Fin 16) (p : Fin 1024)

/-- The first axis' table, key points last. -/
theorem v3_apply : V1 m ρ c main_v3 (ix3 j (lineRow l k) p) = m ((c.tc : Thread nD τ).loc main_arg2) (ix4 j p l k) := by
  show StableHlo.after hostOps0 (W0 m ρ c) (Proc.devRef .tc main_v3) (ix3 j (lineRow l k) p) = _
  after_reads_at
  rw [lineRow_div, lineRow_mod]

/-- The second axis' table, key points last. -/
theorem v5_apply : V1 m ρ c main_v5 (ix3 j (lineRow l k) p) = m ((c.tc : Thread nD τ).loc main_arg3) (ix4 j p l k) := by
  show StableHlo.after hostOps0 (W0 m ρ c) (Proc.devRef .tc main_v5) (ix3 j (lineRow l k) p) = _
  after_reads_at
  rw [lineRow_div, lineRow_mod]

/-- The third axis' table, key points last. -/
theorem v7_apply : V1 m ρ c main_v7 (ix3 j (lineRow l k) p) = m ((c.tc : Thread nD τ).loc main_arg4) (ix4 j p l k) := by
  show StableHlo.after hostOps0 (W0 m ρ c) (Proc.devRef .tc main_v7) (ix3 j (lineRow l k) p) = _
  after_reads_at
  rw [lineRow_div, lineRow_mod]

end

/-- Row of joint `j`, output axis `a`, channel `k` in the sampled table. -/
abbrev outRow (j : Fin 24) (a : Fin 3) (k : Fin 16) : Fin 1152 := ⟨(j.val * 3 + a.val) * 16 + k.val, by omega⟩
/-- Column of axis `a`, line entry `l` in the sampled table. -/
abbrev axisCol (a : Fin 3) (l : Fin 64) : Fin 192 := ⟨a.val * 64 + l.val, by omega⟩

/-- An entry of a lines array is the line of that pose, where the operands' entries are the arguments'. -/
theorem lines_eq (Q : Vec Ideal S24x4x4 .f32) (P : Vec Ideal S24x4x1024 .f32) (T : Vec Ideal S24x1024x1024 .f32)
    (q : FVec Ideal ⟨3, ![4, 24, 4]⟩ .f32) (p : FVec Ideal ⟨3, ![24, 1024, 4]⟩ .f32)
    (f : FVec Ideal ⟨4, ![24, 1024, 64, 16]⟩ .f32) (b : Fin 4) (j : Fin 24) (l : Fin 64) (k : Fin 16)
    (hQ : ∀ e, Q (ix3 j b e) = q (ix3 b j e)) (hP : ∀ e n, P (ix3 j e n) = p (ix3 j n e))
    (hT : ∀ n, T (ix3 j (lineRow l k) n) = f (ix4 j n l k)) :
    LineArrays.lines Q P T (ix3 j (lineRow l k) b) = line q p f b j l k := by
  show mixture (similarity (fun e => Q (ix3 j b e)) fun n e => P (ix3 j e n)) (fun n => T (ix3 j (lineRow l k) n)) = _
  simp only [hQ, hP, hT]
  rfl

/-- The tables of the three axes, from the arguments. -/
abbrev tables : Fin 3 → FVec Ideal ⟨4, ![24, 1024, 64, 16]⟩ .f32 :=
  axisTable (m ((c.tc : Thread nD τ).loc main_arg2)) (m ((c.tc : Thread nD τ).loc main_arg3)) (m ((c.tc : Thread nD τ).loc main_arg4))

/-- The line of axis `a` for pose `(b, j)`, from the arguments. -/
abbrev lineAt (a : Fin 3) (b : Fin 4) (j : Fin 24) (l : Fin 64) (k : Fin 16) : EReal :=
  line (m ((c.tc : Thread nD τ).loc main_arg1)) (m ((c.tc : Thread nD τ).loc main_arg5)) (tables m c a) b j l k

section
variable (j : Fin 24) (l : Fin 64) (k : Fin 16) (b : Fin 4)

/-- The first call's first array holds the first axis' lines. -/
theorem v8_0_apply : W2 m ρ c (Proc.devRef .tc main_v8_0) (ix3 j (lineRow l k) b) = lineAt m c 0 b j l k :=
  (congrFun ((W2_arr m ρ c 5).trans (LineArrays.arr5 (V1 m ρ) c)) _).trans
    (lines_eq _ _ _ _ _ _ b j l k (v0_apply m ρ c j b) (v1_apply m ρ c j) (v3_apply m ρ c j l k))

/-- The first call's second array holds the second axis' lines. -/
theorem v8_1_apply : W2 m ρ c (Proc.devRef .tc main_v8_1) (ix3 j (lineRow l k) b) = lineAt m c 1 b j l k :=
  (congrFun ((W2_arr m ρ c 6).trans (LineArrays.arr6 (V1 m ρ) c)) _).trans
    (lines_eq _ _ _ _ _ _ b j l k (v0_apply m ρ c j b) (v1_apply m ρ c j) (v5_apply m ρ c j l k))

/-- The first call's third array holds the third axis' lines. -/
theorem v8_2_apply : W2 m ρ c (Proc.devRef .tc main_v8_2) (ix3 j (lineRow l k) b) = lineAt m c 2 b j l k :=
  (congrFun ((W2_arr m ρ c 7).trans (LineArrays.arr7 (V1 m ρ) c)) _).trans
    (lines_eq _ _ _ _ _ _ b j l k (v0_apply m ρ c j b) (v1_apply m ρ c j) (v7_apply m ρ c j l k))

end

/-- The axis of a column. -/
theorem axisCol_div (a : Fin 3) (l : Fin 64) (h) : (⟨(a.val * 64 + l.val) / 64, h⟩ : Fin 3) = a := Fin.ext (by show _ / _ = _; omega)

/-- The identity matrix, entry by entry. -/
theorem eye_apply (a' a : Fin 3) :
    FloatOps.uitofp (F := Ideal) .f32 (IntOp.cmpi .eq (IntOp.addi (BitVec.ofNat 32 a'.val) 0#32) (BitVec.ofNat 32 a.val))
      = if a' = a then (1 : EReal) else 0 := by
  have h : IntOp.cmpi .eq (IntOp.addi (BitVec.ofNat 32 a'.val) 0#32) (BitVec.ofNat 32 a.val) = if a' = a then 1#1 else 0#1 := by
    revert a' a; decide
  rw [h]
  split
  · show (((1#1 : BitVec 1).toNat : ℝ) : EReal) = 1; norm_num
  · show (((0#1 : BitVec 1).toNat : ℝ) : EReal) = 0; norm_num

section
variable (V : Valuation τ sig (Elt Ideal))

/-- The three lines arrays by axis. -/
def linesOf : Fin 3 → Vec Ideal S24x1024x4 .f32
  | 0 => V (Proc.devRef .tc main_v8_0)
  | 1 => V (Proc.devRef .tc main_v8_1)
  | 2 => V (Proc.devRef .tc main_v8_2)

/-- The first lines, stacked. -/
theorem upto_v9 (z : Fin 1) (j : Fin 24) (r : Fin 1024) (b : Fin 4) :
    StableHlo.upto hostOps1 V 3 (Proc.devRef .tc main_v9) (ix4 z j r b) = V (Proc.devRef .tc main_v8_0) (ix3 j r b) := by
  unfold StableHlo.upto; after_reads_at

/-- The second lines, stacked. -/
theorem upto_v10 (z : Fin 1) (j : Fin 24) (r : Fin 1024) (b : Fin 4) :
    StableHlo.upto hostOps1 V 3 (Proc.devRef .tc main_v10) (ix4 z j r b) = V (Proc.devRef .tc main_v8_1) (ix3 j r b) := by
  unfold StableHlo.upto; after_reads_at

/-- The third lines, stacked. -/
theorem upto_v11 (z : Fin 1) (j : Fin 24) (r : Fin 1024) (b : Fin 4) :
    StableHlo.upto hostOps1 V 3 (Proc.devRef .tc main_v11) (ix4 z j r b) = V (Proc.devRef .tc main_v8_2) (ix3 j r b) := by
  unfold StableHlo.upto; after_reads_at

/-- The sampled table: an axis' lines in its own columns, zero elsewhere. -/
theorem read_v27 (b : Fin 4) (j : Fin 24) (a' : Fin 3) (k : Fin 16) (a : Fin 3) (l : Fin 64) :
    StableHlo.after hostOps1 V (Proc.devRef .tc main_v27) (ix3 b (outRow j a' k) (axisCol a l))
      = (linesOf V a (ix3 j (lineRow l k) b) * (if a' = a then (1 : EReal) else 0) : EReal) := by
  after_reads_at
  have e1 : (a.val * 64 + l.val) / 64 = a.val := by omega
  have e2 : ((j.val * 3 + a'.val) * 16 + k.val) / 16 % 3 = a'.val := by omega
  have e3 : ∀ h, (⟨((j.val * 3 + a'.val) * 16 + k.val) / 48, h⟩ : Fin 24) = j := fun h => Fin.ext (by show _ / _ = _; omega)
  have e4 : ∀ h, (⟨(a.val * 64 + l.val) % 64 * 16 + ((j.val * 3 + a'.val) * 16 + k.val) % 16, h⟩ : Fin 1024) = lineRow l k :=
    fun h => Fin.ext (by show _ % _ * _ + _ % _ = l.val * 16 + k.val; omega)
  simp only [e1, e2, e3, e4]
  refine congrArg₂ (fun x y : EReal => x * y) ?_ (eye_apply a' a)
  fin_cases a
  · exact (dif_pos (by decide)).trans (upto_v9 V _ j _ b)
  · exact (dif_neg (by decide)).trans ((dif_pos (by decide)).trans (upto_v10 V _ j _ b))
  · exact (dif_neg (by decide)).trans ((dif_neg (by decide)).trans (upto_v11 V _ j _ b))

/-- The first constant of a column is the axis' lower bound. -/
theorem read_v43_origin (a : Fin 3) (l : Fin 64) :
    StableHlo.after hostOps1 V (Proc.devRef .tc main_v43) (ix2 (axisCol a l) 0) = V (Proc.devRef .tc main_arg6) (ix2 0 a) := by
  after_reads_at
  rw [axisCol_div]

/-- The second constant of a column is the axis' scale. -/
theorem read_v43_scale (a : Fin 3) (l : Fin 64) :
    StableHlo.after hostOps1 V (Proc.devRef .tc main_v43) (ix2 (axisCol a l) 1)
      = scale (V (Proc.devRef .tc main_arg6) (ix2 0 a)) (V (Proc.devRef .tc main_arg6) (ix2 1 a)) := by
  after_reads_at
  rw [axisCol_div]
  rfl

/-- The query points, axis first. -/
theorem read_v44 (b : Fin 4) (a : Fin 3) (n : Fin 16384) :
    StableHlo.after hostOps1 V (Proc.devRef .tc main_v44) (ix3 b a n) = V (Proc.devRef .tc main_arg0) (ix3 b n a) := by
  after_reads_at

end

/-- The query points are an argument. -/
theorem arg0_mem : main_arg0 ∈ argRefs := by decide
/-- The bounds are an argument. -/
theorem arg6_mem : main_arg6 ∈ argRefs := by decide

/-- The three arrays of lines, by axis. -/
theorem linesOf_eq (a : Fin 3) (j : Fin 24) (l : Fin 64) (k : Fin 16) (b : Fin 4) :
    linesOf (W2 m ρ c) a (ix3 j (lineRow l k) b) = lineAt m c a b j l k := by
  match a with
  | 0 => exact v8_0_apply m ρ c j l k b
  | 1 => exact v8_1_apply m ρ c j l k b
  | 2 => exact v8_2_apply m ρ c j l k b

/-- The sampled table: the line of axis `a` in the rows of output axis `a`, zero in the others. -/
theorem v27_apply (b : Fin 4) (j : Fin 24) (a' : Fin 3) (k : Fin 16) (a : Fin 3) (l : Fin 64) :
    V3 m ρ c main_v27 (ix3 b (outRow j a' k) (axisCol a l)) = lineAt m c a b j l k * (if a' = a then (1 : EReal) else 0) :=
  (read_v27 (W2 m ρ c) b j a' k a l).trans
    (congrArg (fun x : EReal => x * (if a' = a then (1 : EReal) else 0)) (linesOf_eq m ρ c a j l k b))

/-- The origin of axis `a`, at each of its columns. -/
theorem v43_origin (a : Fin 3) (l : Fin 64) :
    V3 m ρ c main_v43 (ix2 (axisCol a l) 0) = m ((c.tc : Thread nD τ).loc main_arg6) (ix2 0 a) :=
  (read_v43_origin (W2 m ρ c) a l).trans (congrFun (W2_args m ρ c main_arg6 arg6_mem) _)

/-- The scale of axis `a`, at each of its columns: 63 over the axis' extent. -/
theorem v43_scale (a : Fin 3) (l : Fin 64) :
    V3 m ρ c main_v43 (ix2 (axisCol a l) 1)
      = scale (m ((c.tc : Thread nD τ).loc main_arg6) (ix2 0 a)) (m ((c.tc : Thread nD τ).loc main_arg6) (ix2 1 a)) :=
  (read_v43_scale (W2 m ρ c) a l).trans
    (congrArg₂ scale
      (congrFun (W2_args m ρ c main_arg6 arg6_mem) _) (congrFun (W2_args m ρ c main_arg6 arg6_mem) _))

/-- The query points, coordinate-major. -/
theorem v44_apply (b : Fin 4) (a : Fin 3) (n : Fin 16384) :
    V3 m ρ c main_v44 (ix3 b a n) = m ((c.tc : Thread nD τ).loc main_arg0) (ix3 b n a) :=
  (read_v44 (W2 m ρ c) b a n).trans (congrFun (W2_args m ρ c main_arg0 arg0_mem) _)

end Cert.KernelIdeal.HostReads

end
-- ==== Proof.Sampling.lean ====
/-
  Sampling a line, as plain mathematics: the position of a coordinate along an axis, the hat-shaped weights of the 64 line
  entries at that position, and the weighted sum.
-/
module

public import proofs.«01_k».proof.Proof.Lines

@[expose] public section

noncomputable section

namespace TopPicks

open Idealize.ShloMosaic

/-- A position cut to the line, whose entries sit at 0 … 63. -/
def clip (x : EReal) : EReal := min (Ideal.ofBits .f32 0x427C0000#32) (max 0 x)

/-- The weight of entry `l` at position `x`: one less the distance, or zero where the distance is larger. -/
def hat (x : EReal) (l : Fin 64) : EReal :=
  max 0 (1 - max (x - ((l.val : ℝ) : EReal)) (-(x - ((l.val : ℝ) : EReal))))

/-- The position of coordinate `q` on an axis from `lo` to `hi`. -/
def place (lo hi q : EReal) : EReal := clip ((q - lo) * scale lo hi)

/-- The line `v` sampled with the hat weights at position `x`. -/
def sample (v : Fin 64 → EReal) (x : EReal) : EReal := ∑ l, v l * hat x l

/-- The value of the program: axis `a` of query point `n`, sampled in the line of pose `(b, j)`, channel `k`. -/
def result (pts : FVec Ideal ⟨3, ![4, 16384, 3]⟩ .f32) (q : FVec Ideal ⟨3, ![4, 24, 4]⟩ .f32)
    (f : Fin 3 → FVec Ideal ⟨4, ![24, 1024, 64, 16]⟩ .f32) (p : FVec Ideal ⟨3, ![24, 1024, 4]⟩ .f32)
    (bounds : FVec Ideal ⟨2, ![2, 3]⟩ .f32) (b : Fin 4) (n : Fin 16384) (j : Fin 24) (a : Fin 3) (k : Fin 16) : EReal :=
  sample (fun l => line q p (f a) b j l k) (place (bounds (ix2 0 a)) (bounds (ix2 1 a)) (pts (ix3 b n a)))

/-- A sum over the 192 columns is one over the axes and the entries of each. -/
theorem sum_columns (f : Fin 192 → EReal) (col : Fin 3 → Fin 64 → Fin 192) (hcol : ∀ a l, (col a l).val = a.val * 64 + l.val) :
    ∑ q, f q = ∑ a, ∑ l, f (col a l) := by
  rw [← Fintype.sum_prod_type' (f := fun a l => f (col a l))]
  refine (Fintype.sum_equiv (finProdFinEquiv : Fin 3 × Fin 64 ≃ Fin 192) _ _ fun al => ?_).symm
  congr 1
  refine Fin.ext ?_
  rw [hcol]
  simp [finProdFinEquiv]
  omega

/-- A table that is zero in the rows of other axes samples to the line of the row's own axis. -/
theorem sum_axis (v : Fin 3 → Fin 64 → EReal) (w : Fin 3 → Fin 64 → EReal) (a' : Fin 3) :
    ∑ a, ∑ l, (v a l * if a' = a then (1 : EReal) else 0) * w a l = ∑ l, v a' l * w a' l := by
  rw [Finset.sum_eq_single a']
  · simp
  · intro a _ ha
    simp [ha.symm]
  · intro h; exact absurd (Finset.mem_univ _) h

end TopPicks

end
-- ==== Proof.SampleArray.lean ====
/-
  The second kernel, element by element, and the program's result array.

  A block of the second kernel multiplies the sampled table with hat weights computed from the query points; the axis of
  a column and its entry number are words of the column's index. Over the grid the blocks make the result array, which the
  host re-lays; each of its elements is a line sampled at the position of a coordinate.
-/
module

public import proofs.«01_k».proof.Proof.HostReads
public import proofs.«01_k».proof.Proof.Sampling

@[expose] public section

set_option maxRecDepth 16384

noncomputable section

namespace Cert.KernelIdeal.SampleArray

open Cert.KernelIdeal Cert.KernelIdeal.Gen Cert.KernelIdeal.HostReads
open Idealize.ShloMosaic TopPicks
open Idealize.ShloMosaic.Pipeline (Dat)

/-- The word of a column's axis. -/
theorem axis_word (p : Fin 192) : k1_pay3 (ix2 p 0) = BitVec.ofNat 32 (p.val / 64) := by
  pointwise [k1_pay3]
  revert p; decide +kernel

/-- The word of a column's entry number. -/
theorem line_word (p : Fin 192) : select k1_pay5 k1_pay6 k1_pay4 (ix2 p 0) = BitVec.ofNat 32 (p.val % 64) := by
  pointwise [k1_pay5, k1_pay6, k1_pay4]
  revert p; decide +kernel

/-- The coordinate a column of axis `a` takes. -/
theorem select_axis (a : Fin 3) (l : Fin 64) (x : Fin 3 → EReal) :
    Scalar.select (IntOp.cmpi .eq (k1_pay3 (ix2 (axisCol a l) 0)) 0#32) (x 0)
      (Scalar.select (IntOp.cmpi .eq (k1_pay3 (ix2 (axisCol a l) 0)) 1#32) (x 1) (x 2)) = x a := by
  rw [axis_word, show (axisCol a l).val / 64 = a.val by show (a.val * 64 + l.val) / 64 = a.val; omega]
  fin_cases a <;> rfl

/-- A line entry's number as an extended real. -/
theorem sitofp_line (l : Fin 64) : FloatOps.sitofp (F := Ideal) .f32 (BitVec.ofNat 32 l.val) = ((l.val : ℝ) : EReal) := by
  have h : (BitVec.ofNat 32 l.val).toInt = l.val := by revert l; decide
  show (((BitVec.ofNat 32 l.val).toInt : ℝ) : EReal) = _
  rw [h]; norm_cast

/-- The hat weight of column `(a, l)` as the block computes it. -/
theorem weight_eq (a : Fin 3) (l : Fin 64) (x : Fin 3 → EReal) (lo sc : EReal) :
    max 0 (1 - FloatOps.absf (F := Ideal) (φ := .f32) (min (Ideal.ofBits .f32 0x427C0000#32) (max 0
      ((Scalar.select (IntOp.cmpi .eq (k1_pay3 (ix2 (axisCol a l) 0)) 0#32) (x 0)
        (Scalar.select (IntOp.cmpi .eq (k1_pay3 (ix2 (axisCol a l) 0)) 1#32) (x 1) (x 2)) - lo) * sc))
      - FloatOps.sitofp (F := Ideal) .f32 (select k1_pay5 k1_pay6 k1_pay4 (ix2 (axisCol a l) 0)) : EReal))
    = hat (clip ((x a - lo) * sc)) l := by
  rw [select_axis, line_word, show (axisCol a l).val % 64 = l.val by show (a.val * 64 + l.val) % 64 = l.val; omega, sitofp_line]
  rfl

/-- An element of an output block. -/
theorem out_apply (x0 : Vec Ideal S192x2 .f32) (x1 : Vec Ideal S1x3x2048 .f32) (x2 : Vec Ideal S1x1152x192 .bf16)
    (r : Fin 1152) (n : Fin 2048) :
    out1_3 x0 x1 x2 (ix3 0 r n) = ∑ a : Fin 3, ∑ l : Fin 64, (x2 (ix3 0 r (axisCol a l)) : EReal)
      * hat (clip ((x1 (ix3 0 a n) - x0 (ix2 (axisCol a l) 0) : EReal) * x0 (ix2 (axisCol a l) 1))) l := by
  unfold out1_3
  rw [View.canon_unit_zero Rounds.hz3]
  pointwise [k1_pay1, k1_pay7, k1_pay2]
  rw [sum_columns _ axisCol fun _ _ => rfl]
  refine Finset.sum_congr rfl fun a _ => Finset.sum_congr rfl fun l _ => ?_
  exact congrArg (fun w : EReal => (x2 (ix3 0 r (axisCol a l)) : EReal) * w) (weight_eq a l (fun a => x1 (ix3 0 a n)) _ _)

variable (V : (c : Dev nD) → (b : Ref sig .tc) → Buf (Elt Ideal) ((c.tc : Thread nD τ).loc b)) (c : Dev nD)

/-- The second kernel's result from its three operands. -/
def sampled (K : Vec Ideal S192x2 .f32) (Q : Vec Ideal S4x3x16384 .f32) (T : Vec Ideal S4x1152x192 .bf16) :
    Vec Ideal S4x1152x16384 .f32 := fun i =>
  ∑ a : Fin 3, ∑ l : Fin 64, (T (ix3 (i 0) (i 1) (axisCol a l)) : EReal)
    * hat (clip ((Q (ix3 (i 0) a (i 2)) - K (ix2 (axisCol a l) 0) : EReal) * K (ix2 (axisCol a l) 1))) l

/-- Grid point `t`'s batch entry. -/
abbrev batch (t : Fin cfg1.N) : Fin 4 := ⟨t.val / 8, by have := t.isLt; have e : cfg1.N = 32 := N_1; omega⟩
/-- Grid point `t`'s query point number `n` of 2048. -/
abbrev point (t : Fin cfg1.N) (n : Fin 2048) : Fin 16384 := ⟨t.val % 8 * 2048 + n.val, by omega⟩

/-- The windows' blocks at grid point `t`. -/
theorem index_eq : ∀ t : Fin cfg1.N, (win1_0.index t = ![0, 0] ∧ win1_1.index t = ![t.val / 8, 0, t.val % 8]
    ∧ win1_2.index t = ![t.val / 8, 0, 0] ∧ win1_3.index t = ![t.val / 8, 0, t.val % 8]) :=
  (by decide +kernel : ∀ t : Fin grid1.N, _)

/-- The constants' block of a grid step. -/
theorem blk0 (t : Fin cfg1.N) (q : Fin 192) (e : Fin 2) : iblk1 V c 0 t (ix2 q e) = V c main_v43 (ix2 q e) := by
  blk_ext! [iblk1, (index_eq t).1]

/-- The query points' block of a grid step. -/
theorem blk1 (t : Fin cfg1.N) (a : Fin 3) (n : Fin 2048) :
    iblk1 V c 1 t (ix3 0 a n) = V c main_v44 (ix3 (batch t) a (point t n)) := by
  blk_ext! [iblk1, (index_eq t).2.1]

/-- The lines' block of a grid step. -/
theorem blk2 (t : Fin cfg1.N) (r : Fin 1152) (q : Fin 192) :
    iblk1 V c 2 t (ix3 0 r q) = V c main_v27 (ix3 (batch t) r q) := by
  blk_ext! [iblk1, (index_eq t).2.2.1]

/-- An index of an output block is its row and its column. -/
theorem eq_block_index (y : S1x1152x2048.Idx) : ∃ (r : Fin 1152) (n : Fin 2048), y = ix3 0 r n :=
  ⟨y 1, y 2, by blk_ext⟩

/-- What the second kernel leaves in its result array. -/
theorem arr : (dat1 V c).arrAt 3 cfg1.N = sampled (V c main_v43) (V c main_v44) (V c main_v27) := by
  refine (dat1 V c).arrAt_eq_of_covers 3 _ (by decide +kernel) fun t hf y => ?_
  blk_simp
  rw [after1_3]
  obtain ⟨r, n, rfl⟩ := eq_block_index y
  have e : (win1_3.blk t).view.emb (ix3 0 r n) = ix3 (batch t) r (point t n) := by blk_ext [(index_eq t).2.2.2]
  refine ((out_apply _ _ _ r n).trans ?_).trans
    (congrArg (sampled (V c main_v43) (V c main_v44) (V c main_v27)) e.symm)
  simp only [blk0, blk1, blk2]
  rfl

variable (m : (ℓ : Loc nD τ sig) → Buf (Elt Ideal) ℓ) (ρ : Dev nD → PrngReg)

/-- The result is the second call's array, its axes put in order. -/
theorem read_v47 (V : Valuation τ sig (Elt Ideal)) (b : Fin 4) (n : Fin 16384) (j : Fin 24) (a : Fin 3) (k : Fin 16) :
    StableHlo.after hostOps2 V (Proc.devRef .tc main_v47) (ix5 b n j a k) = V (Proc.devRef .tc main_v45) (ix3 b (outRow j a k) n) := by
  after_reads_at
  congr 2
  exact Fin.ext (by show j.val * 48 + a.val * 16 + k.val = (j.val * 3 + a.val) * 16 + k.val; omega)

/-- An element of the second kernel's result, where its operands' entries are known: the table's rows of an output axis
    hold that axis' lines, the other columns zero. -/
theorem sampled_eq (K : Vec Ideal S192x2 .f32) (Q : Vec Ideal S4x3x16384 .f32) (T : Vec Ideal S4x1152x192 .bf16)
    (v : Fin 3 → Fin 64 → EReal) (lo hi x : Fin 3 → EReal) (b : Fin 4) (n : Fin 16384) (j : Fin 24) (a : Fin 3) (k : Fin 16)
    (hT : ∀ a' l, T (ix3 b (outRow j a k) (axisCol a' l)) = (v a' l * (if a = a' then (1 : EReal) else 0) : EReal))
    (hQ : ∀ a', Q (ix3 b a' n) = x a') (hK0 : ∀ a' l, K (ix2 (axisCol a' l) 0) = lo a')
    (hK1 : ∀ a' l, K (ix2 (axisCol a' l) 1) = scale (lo a') (hi a')) :
    sampled K Q T (ix3 b (outRow j a k) n) = sample (v a) (place (lo a) (hi a) (x a)) := by
  refine Eq.trans ?_ (sum_axis v (fun a' l => hat (place (lo a') (hi a') (x a')) l) a)
  show (∑ a' : Fin 3, ∑ l : Fin 64, (T (ix3 b (outRow j a k) (axisCol a' l)) : EReal)
    * hat (clip ((Q (ix3 b a' n) - K (ix2 (axisCol a' l) 0) : EReal) * K (ix2 (axisCol a' l) 1))) l) = _
  simp only [hT, hQ, hK0, hK1]
  rfl

/-- The kernel program's result, element by element. -/
theorem result_apply (b : Fin 4) (n : Fin 16384) (j : Fin 24) (a : Fin 3) (k : Fin 16) :
    W5 m ρ c (Proc.devRef .tc main_v47) (ix5 b n j a k)
      = result (m ((c.tc : Thread nD τ).loc main_arg0)) (m ((c.tc : Thread nD τ).loc main_arg1)) (tables m c)
          (m ((c.tc : Thread nD τ).loc main_arg5)) (m ((c.tc : Thread nD τ).loc main_arg6)) b n j a k := by
  refine (read_v47 (W4 m ρ c) b n j a k).trans ?_
  refine (congrFun ((W4_arr m ρ c 3).trans (arr (V3 m ρ) c)) _).trans ?_
  exact sampled_eq _ _ _ (fun a' l => lineAt m c a' b j l k) (fun a' => m ((c.tc : Thread nD τ).loc main_arg6) (ix2 0 a'))
    (fun a' => m ((c.tc : Thread nD τ).loc main_arg6) (ix2 1 a')) (fun a' => m ((c.tc : Thread nD τ).loc main_arg0) (ix3 b n a'))
    b n j a k (v27_apply m ρ c b j a k) (fun a' => v44_apply m ρ c b a' n) (v43_origin m ρ c) (v43_scale m ρ c)

end Cert.KernelIdeal.SampleArray

end
-- ==== Proof.NearestPicks.lean ====
/-
  The reference's choice of key points: the positions and the values of the ten largest entries of a row of similarities,
  as the stable descending sort gives them.
-/
module

public import proofs.«01_k».proof.Proof.Lines

@[expose] public section

set_option maxRecDepth 16384

noncomputable section

namespace TopPicks

open Idealize.ShloMosaic

/-- The position that the ten-largest operation finds in place `r` of row `(b, j)` is the one that round `r` takes. -/
theorem sorted_pick (x : FVec Ideal ⟨3, ![4, 24, 1024]⟩ .f32) (b : Fin 4) (j : Fin 24) (r : Fin 10)
    (hx : ∀ n, (0 : EReal) ≤ x (ix3 b j n)) (k : (⟨3, ![4, 24, 1024]⟩ : Shape).Idx)
    (hk : k = ix3 b j (r.castLE (by omega : 10 ≤ 1024))) :
    k.along 2 (sortedFrom (fun p q : Fin 1024 =>
        (FloatOps.cmpfTotal (F := Ideal) (φ := .f32) .gt (x (k.along 2 p)) (x (k.along 2 q)) == 1#1)) (k 2))
      = ix3 b j (pick (fun n => x (ix3 b j n)) r.val) := by
  subst hk
  have ha : ∀ p : Fin 1024, (ix3 b j (r.castLE (by omega : 10 ≤ 1024)) : (⟨3, ![4, 24, 1024]⟩ : Shape).Idx).along 2 p
      = ix3 b j p := fun p => by
    funext a
    match a with
    | ⟨0, _⟩ => rfl
    | ⟨1, _⟩ => rfl
    | ⟨2, _⟩ => rfl
  refine (ha _).trans (congrArg (ix3 b j) ?_)
  refine sortedFrom_eq_pick (d := fun n => x (ix3 b j n)) hx r _ fun p q => ?_
  simp only [ha]
  show (BitVec.ofBool (decide (x (ix3 b j q) < x (ix3 b j p))) == 1#1) = _
  cases decide (x (ix3 b j q) < x (ix3 b j p)) <;> rfl

/-- The value in place `r` of row `(b, j)` is the row's entry at the position that round `r` takes. -/
theorem topK_value (x : FVec Ideal ⟨3, ![4, 24, 1024]⟩ .f32) (h) (b : Fin 4) (j : Fin 24) (r : Fin 10)
    (hx : ∀ n, (0 : EReal) ≤ x (ix3 b j n)) :
    (Host.topK ⟨3, ![4, 24, 10]⟩ 2 (FloatOps.cmpfTotal .gt) x h).1 (ix3 b j r)
      = x (ix3 b j (pick (fun n => x (ix3 b j n)) r.val)) := by
  have e := sorted_pick x b j r hx (ix3 b j (r.castLE (by omega : 10 ≤ 1024))) rfl
  refine Eq.trans ?_ (congrArg x e)
  unfold Host.topK Host.sort2
  pointwise []
  rfl

/-- The index word in place `r` of row `(b, j)` is the position that round `r` takes. -/
theorem topK_index (x : FVec Ideal ⟨3, ![4, 24, 1024]⟩ .f32) (h) (b : Fin 4) (j : Fin 24) (r : Fin 10)
    (hx : ∀ n, (0 : EReal) ≤ x (ix3 b j n)) :
    (Host.topK ⟨3, ![4, 24, 10]⟩ 2 (FloatOps.cmpfTotal .gt) x h).2 (ix3 b j r)
      = BitVec.ofNat 32 (pick (fun n => x (ix3 b j n)) r.val).val := by
  have e := sorted_pick x b j r hx (ix3 b j (r.castLE (by omega : 10 ≤ 1024))) rfl
  refine Eq.trans ?_ (congrArg (fun k : (⟨3, ![4, 24, 1024]⟩ : Shape).Idx => BitVec.ofNat 32 (k 2).val) e)
  unfold Host.topK Host.sort2
  pointwise []
  rfl

end TopPicks

end
-- ==== Proof.Gathers.lean ====
/-
  The reference's two table reads, entry by entry: a line of a joint's table at an index pair, and an entry of a line at an
  index, each for index words that lie within the table.
-/
module

public import proofs.«01_k».proof.Proof.Gen.ReferenceIdeal
public import Idealize.ShloMosaic.Lib.Pointwise

@[expose] public section

set_option maxRecDepth 16384

noncomputable section

namespace Cert.ReferenceIdeal.Gathers

open Cert.ReferenceIdeal Cert.ReferenceIdeal.Gen Idealize.ShloMosaic

/-- A word that holds a small number, read signed. -/
theorem toInt_small (w : BitVec 32) (n : ℕ) (hw : w = BitVec.ofNat 32 n) (hn : n < 2147483648) : w.toInt.toNat = n := by
  subst hw
  rw [BitVec.toInt_eq_toNat_cond, BitVec.toNat_ofNat, Nat.mod_eq_of_lt (by omega), if_pos (by omega)]
  omega

/-- The table read at index pair `(p, q)`: the table's line of joint `p`, key point `q`. -/
theorem pair_apply {α : Type} (x : S24x1024x64x16.Idx → α) (idx : IVec S4x24x10x2 32) (b : Fin 4) (j : Fin 24) (r : Fin 10)
    (l : Fin 64) (k : Fin 16) (p : Fin 24) (q : Fin 1024) (hp : idx (ix4 b j r 0) = BitVec.ofNat 32 p.val)
    (hq : idx (ix4 b j r 1) = BitVec.ofNat 32 q.val) :
    Host.gather gather_S24x1024x64x16_S4x24x10x2_S4x24x10x64x16_34_01_n_n_01_3_116416 x idx (ix5 b j r l k)
      = x (ix4 p q l k) := by
  refine congrArg x (funext fun a => Fin.ext ?_)
  have hp' := toInt_small _ _ hp (by omega)
  have hq' := toInt_small _ _ hq (by omega)
  match a with
  | ⟨0, _⟩ =>
    have h : gather_S24x1024x64x16_S4x24x10x2_S4x24x10x64x16_34_01_n_n_01_3_116416.siIdx (ix5 b j r l k) ⟨0, by decide⟩
        = ix4 b j r 0 := by
      funext c
      match c with
      | ⟨0, _⟩ => rfl
      | ⟨1, _⟩ => rfl
      | ⟨2, _⟩ => rfl
      | ⟨3, _⟩ => rfl
    show min (idx (gather_S24x1024x64x16_S4x24x10x2_S4x24x10x64x16_34_01_n_n_01_3_116416.siIdx (ix5 b j r l k) ⟨0, by decide⟩)).toInt.toNat (24 - 1) + 0 + 0 = p.val
    rw [h, hp']
    omega
  | ⟨1, _⟩ =>
    have h : gather_S24x1024x64x16_S4x24x10x2_S4x24x10x64x16_34_01_n_n_01_3_116416.siIdx (ix5 b j r l k) ⟨1, by decide⟩
        = ix4 b j r 1 := by
      funext c
      match c with
      | ⟨0, _⟩ => rfl
      | ⟨1, _⟩ => rfl
      | ⟨2, _⟩ => rfl
      | ⟨3, _⟩ => rfl
    show min (idx (gather_S24x1024x64x16_S4x24x10x2_S4x24x10x64x16_34_01_n_n_01_3_116416.siIdx (ix5 b j r l k) ⟨1, by decide⟩)).toInt.toNat (1024 - 1) + 0 + 0 = q.val
    rw [h, hq']
    omega
  | ⟨2, _⟩ => exact (Nat.zero_add _).trans rfl
  | ⟨3, _⟩ => exact (Nat.zero_add _).trans rfl

/-- The lines read at index `p`: entry `p` of row `r`. -/
theorem entry_apply {α : Type} (x : S4x384x64.Idx → α) (idx : IVec S4x16384x1 32) (b : Fin 4) (r : Fin 384) (n : Fin 16384)
    (p : Fin 64) (hp : idx (ix3 b n 0) = BitVec.ofNat 32 p.val) :
    Host.gather gather_S4x384x64_S4x16384x1_S4x384x16384_1_2_0_0_2_2_13841 x idx (ix3 b r n) = x (ix3 b r p) := by
  refine congrArg x (funext fun a => Fin.ext ?_)
  have hp' := toInt_small _ _ hp (by omega)
  match a with
  | ⟨0, _⟩ => exact (Nat.zero_add _).trans rfl
  | ⟨1, _⟩ => exact (Nat.zero_add _).trans rfl
  | ⟨2, _⟩ =>
    have h : gather_S4x384x64_S4x16384x1_S4x384x16384_1_2_0_0_2_2_13841.siIdx (ix3 b r n) ⟨0, by decide⟩ = ix3 b n 0 := by
      funext c
      match c with
      | ⟨0, _⟩ => rfl
      | ⟨1, _⟩ => rfl
      | ⟨2, _⟩ => rfl
    show min (idx (gather_S4x384x64_S4x16384x1_S4x384x16384_1_2_0_0_2_2_13841.siIdx (ix3 b r n) ⟨0, by decide⟩)).toInt.toNat (64 - 1) + 0 + 0 = p.val
    rw [h, hp']
    omega

end Cert.ReferenceIdeal.Gathers

end
-- ==== Proof.ReferenceLines.lean ====
/-
  The reference's lines: for each axis, the array of the mixed table lines, entry by entry.
-/
module

public import proofs.«01_k».proof.Proof.NearestPicks
public import proofs.«01_k».proof.Proof.Gathers
public import proofs.«01_k».proof.Proof.Gen.ReferenceIdeal.Run

@[expose] public section

set_option maxRecDepth 16384

noncomputable section

namespace Cert.ReferenceIdeal.Lines

open Cert.ReferenceIdeal Cert.ReferenceIdeal.Gen Cert.ReferenceIdeal.Value Idealize.ShloMosaic Idealize.ShloMosaic.TcCoe
  Idealize.ShloMosaic.StableHlo TopPicks

variable (V : Valuation τ sig (Elt Ideal))

/-- The similarities of pose `(b, j)`, from the arguments. -/
abbrev simRow (b : Fin 4) (j : Fin 24) : Row := poseSim (V (Proc.devRef .tc main_arg1)) (V (Proc.devRef .tc main_arg5)) b j

/-- The reference's similarities. -/
theorem v23_apply (b : Fin 4) (j : Fin 24) (n : Fin 1024) : res_main_v23 V (ix3 b j n) = simRow V b j n := by
  pointwise [res_main_v23]
  simp only [Fin.sum_univ_four]
  rfl

/-- The reference's similarities are not negative. -/
theorem v23_nonneg (b : Fin 4) (j : Fin 24) (n : Fin 1024) : (0 : EReal) ≤ res_main_v23 V (ix3 b j n) :=
  (poseSim_nonneg _ _ b j n).trans_eq (v23_apply V b j n).symm

/-- A row of the reference's similarities. -/
theorem v23_row (b : Fin 4) (j : Fin 24) : (fun n => (res_main_v23 V (ix3 b j n) : EReal)) = simRow V b j :=
  funext fun n => v23_apply V b j n

/-- The ten largest similarities of a pose, in order. -/
theorem values_apply (b : Fin 4) (j : Fin 24) (r : Fin 10) :
    res_main_values V (ix3 b j r) = simRow V b j (pick (simRow V b j) r.val) := by
  refine (topK_value (res_main_v23 V) sliceFits_S4x24x1024_S4x24x10 b j r (v23_nonneg V b j)).trans ?_
  refine (v23_apply V b j _).trans ?_
  exact congrArg (fun d : Row => simRow V b j (pick d r.val)) (v23_row V b j)

/-- Their positions, as words. -/
theorem indices_apply (b : Fin 4) (j : Fin 24) (r : Fin 10) :
    res_main_indices V (ix3 b j r) = BitVec.ofNat 32 (pick (simRow V b j) r.val).val := by
  refine (topK_index (res_main_v23 V) sliceFits_S4x24x1024_S4x24x10 b j r (v23_nonneg V b j)).trans ?_
  exact congrArg (fun d : Row => BitVec.ofNat 32 (pick d r.val).val) (v23_row V b j)

/-- The absolute value of what is not negative is itself. -/
theorem abs_nonneg_eq (x : EReal) (h : 0 ≤ x) : max x (-x) = x :=
  max_eq_left ((EReal.neg_le_zero.mpr h).trans h)

/-- Their weights: each over the total. -/
theorem v30_apply (b : Fin 4) (j : Fin 24) (r : Fin 10) :
    res_main_v30 V (ix3 b j r) = Ideal.div (simRow V b j (pick (simRow V b j) r.val)) (total (simRow V b j)) := by
  pointwise [res_main_v30]
  refine congrArg₂ Ideal.div (values_apply V b j r) (congrArg (fun s => max s floorW) (Finset.sum_congr rfl fun s _ => ?_))
  refine (abs_nonneg_eq _ ?_).trans (values_apply V b j s)
  exact (poseSim_nonneg _ _ b j _).trans_eq (values_apply V b j s).symm

/-- The index pairs of the table read: the joint, and the key point taken. -/
def pairs : IVec S4x24x10x2 32 :=
  concatenate S4x24x10x2 3 [⟨S4x24x10x1, (broadcastInDim S4x24x10x1 ![0, 1, 2] bcast_S4x24x10_S4x24x10x1_0_1_2 (broadcastInDim S4x24x10 ![0, 1, 2] bcast_S1x24x1_S4x24x10_0_1_2 (select (cmpi .slt (res_main_v34 V) (broadcastInDim S1x24x1 ![] bcast_S_S1x24x1 (constantI S_ 32 0#32))) (addi (res_main_v34 V) (broadcastInDim S1x24x1 ![] bcast_S_S1x24x1 (constantI S_ 32 24#32))) (res_main_v34 V))))⟩, ⟨S4x24x10x1, (broadcastInDim S4x24x10x1 ![0, 1, 2] bcast_S4x24x10_S4x24x10x1_0_1_2 (select (cmpi .slt (res_main_indices V) (broadcastInDim S4x24x10 ![] bcast_S_S4x24x10 (constantI S_ 32 0#32))) (addi (res_main_indices V) (broadcastInDim S4x24x10 ![] bcast_S_S4x24x10 (constantI S_ 32 1024#32))) (res_main_indices V)))⟩] concatenates_S4x24x10x1_S4x24x10x1_S4x24x10x2_d3

/-- A small word is not negative, so the wrap of negative indices leaves it. -/
theorem wrap_small (w c : BitVec 32) (n : ℕ) (hw : w = BitVec.ofNat 32 n) (hn : n < 2147483648) :
    (if IntOp.cmpi .slt w 0#32 = 1#1 then IntOp.addi w c else w) = BitVec.ofNat 32 n := by
  subst hw
  rw [if_neg]
  have : ¬ (BitVec.ofNat 32 n).toInt < 0 := by
    rw [BitVec.toInt_eq_toNat_cond, BitVec.toNat_ofNat, Nat.mod_eq_of_lt (by omega), if_pos (by omega)]
    omega
  show ¬ BitVec.ofBool ((BitVec.ofNat 32 n).slt 0#32) = 1#1
  simp [BitVec.slt, this]

/-- The first index of a pair is the joint. -/
theorem pairs_joint (b : Fin 4) (j : Fin 24) (r : Fin 10) : pairs V (ix4 b j r 0) = BitVec.ofNat 32 j.val := by
  pointwise [pairs, res_main_v34]
  exact wrap_small _ _ j.val rfl (by omega)

/-- The second index of a pair is the key point that the round takes. -/
theorem pairs_point (b : Fin 4) (j : Fin 24) (r : Fin 10) :
    pairs V (ix4 b j r 1) = BitVec.ofNat 32 (pick (simRow V b j) r.val).val := by
  pointwise [pairs]
  exact wrap_small _ _ _ (indices_apply V b j r) (by omega)

/-- A sum of weights times table entries is the mixture, where the weights and the entries are the mixture's own. -/
theorem sum_weighted (d f : Row) (w g : Fin 10 → EReal) (hw : ∀ r, w r = Ideal.div (d (pick d r.val)) (total d))
    (hg : ∀ r, g r = f (pick d r.val)) : ∑ r, w r * g r = mixture d f :=
  Finset.sum_congr rfl fun r _ => by rw [hw, hg, mul_comm]

/-- The mixed lines of a table. -/
def linesOf (f : FVec Ideal S24x1024x64x16 .f32) : FVec Ideal S4x384x64 .f32 :=
  shapeCast _ (transpose S4x24x16x64 [0, 1, 3, 2] (Host.reduceAdd (mulf (broadcastInDim S4x24x10x64x16 ![0, 1, 2, 3, 4] bcast_S4x24x10x1x1_S4x24x10x64x16_0_1_2_3_4 (broadcastInDim S4x24x10x1x1 ![0, 1, 2] bcast_S4x24x10_S4x24x10x1x1_0_1_2 (res_main_v30 V))) (Host.gather gather_S24x1024x64x16_S4x24x10x2_S4x24x10x64x16_34_01_n_n_01_3_116416 f (pairs V))) (constant S_ .f32 0x00000000#32) reducesTo_S4x24x10x64x16_S4x24x64x16_d2 h_S_) transposes_S4x24x64x16_S4x24x16x64_0_1_3_2) shapeCasts_S4x24x16x64_S4x384x64

/-- The first axis' lines are the mixed lines of its table. -/
theorem v55_eq : res_main_v55 V = linesOf V (V (Proc.devRef .tc main_arg2)) := rfl
/-- The second axis' lines are the mixed lines of its table. -/
theorem v109_eq : res_main_v109 V = linesOf V (V (Proc.devRef .tc main_arg3)) := rfl
/-- The third axis' lines are the mixed lines of its table. -/
theorem v163_eq : res_main_v163 V = linesOf V (V (Proc.devRef .tc main_arg4)) := rfl

/-- Row `16 j + k` of the mixed lines is the line of joint `j`, channel `k`. -/
theorem linesOf_apply (f : FVec Ideal S24x1024x64x16 .f32) (b : Fin 4) (j : Fin 24) (k : Fin 16) (l : Fin 64) (q : Fin 384)
    (hq : q.val = j.val * 16 + k.val) :
    linesOf V f (ix3 b q l) = line (V (Proc.devRef .tc main_arg1)) (V (Proc.devRef .tc main_arg5)) f b j l k := by
  pointwise [linesOf]
  have hj : ∀ h, (⟨q.val / 16, h⟩ : Fin 24) = j := fun h => Fin.ext (by simp only [hq]; omega)
  have hk : ∀ h, (⟨q.val % 16, h⟩ : Fin 16) = k := fun h => Fin.ext (by simp only [hq]; omega)
  simp only [hj, hk]
  exact sum_weighted _ _ _ _ (fun r => v30_apply V b j r)
    fun r => Gathers.pair_apply f (pairs V) b j r l k j _ (pairs_joint V b j r) (pairs_point V b j r)

end Cert.ReferenceIdeal.Lines

end
-- ==== Proof.Cells.lean ====
/-
  Linear interpolation between two neighbouring line entries, as plain mathematics: the hat weights at a position between 0
  and 63 vanish but at the position's cell and the next entry, and the two ways of scaling a coordinate to the line agree.
-/
module

public import proofs.«01_k».proof.Proof.Sampling

@[expose] public section

noncomputable section

namespace TopPicks

open Idealize.ShloMosaic

/-- The cell of a position: its floor, cut to 0 … 62. -/
def cell (x : EReal) : BitVec 32 := IntOp.minsi 62#32 (IntOp.maxsi 0#32 (Ideal.fptosi 32 (Ideal.liftRound Int.floor x)))

/-- A cut position is a real number between 0 and 63. -/
theorem clip_real (x : EReal) : ∃ r : ℝ, clip x = (r : EReal) ∧ 0 ≤ r ∧ r ≤ 63 := by
  have h0 : (0 : EReal) ≤ clip x := le_min (by rw [Literals.sixtyThree]; exact_mod_cast (by norm_num : (0 : ℝ) ≤ 63)) (le_max_left _ _)
  have h1 : clip x ≤ ((63 : ℝ) : EReal) := (min_le_left _ _).trans_eq Literals.sixtyThree
  lift clip x to ℝ using ⟨ne_top_of_le_ne_top (EReal.coe_ne_top _) h1, ne_bot_of_le_ne_bot (by simp) h0⟩ with r
  exact ⟨r, rfl, by exact_mod_cast h0, by exact_mod_cast h1⟩

/-- The cell of a position between 0 and 63, as a number: the position lies between it and the next entry. -/
theorem cell_spec (r : ℝ) (h0 : 0 ≤ r) (h1 : r ≤ 63) :
    ∃ i : Fin 63, cell (r : EReal) = BitVec.ofNat 32 i.val ∧ (i.val : ℝ) ≤ r ∧ r ≤ (i.val : ℝ) + 1 := by
  have hf0 : 0 ≤ ⌊r⌋ := Int.floor_nonneg.mpr h0
  have hf1 : ⌊r⌋ ≤ 63 := by
    have : ⌊r⌋ ≤ ⌊(63 : ℝ)⌋ := Int.floor_le_floor h1
    simpa using this
  obtain ⟨f, hf⟩ := Int.eq_ofNat_of_zero_le hf0
  have hf63 : f ≤ 63 := by omega
  have hle := Int.floor_le r
  have hlt := Int.lt_floor_add_one r
  have hto : Ideal.fptosi 32 (Ideal.liftRound Int.floor (r : EReal)) = BitVec.ofNat 32 f := by
    show BitVec.ofInt 32 (max _ (min _ (if (0 : ℝ) ≤ ((⌊r⌋ : ℤ) : ℝ) then ⌊((⌊r⌋ : ℤ) : ℝ)⌋ else ⌈((⌊r⌋ : ℤ) : ℝ)⌉))) = _
    rw [Int.floor_intCast, Int.ceil_intCast, ite_self, hf]
    rw [show max (-((2 ^ (32 - 1) : ℕ) : ℤ)) (min (((2 ^ (32 - 1) : ℕ) : ℤ) - 1) (f : ℤ)) = (f : ℤ) by
      norm_num
      omega]
    exact BitVec.ofInt_natCast 32 f
  have hmin : ∀ g : Fin 64, IntOp.minsi 62#32 (IntOp.maxsi 0#32 (BitVec.ofNat 32 g.val)) = BitVec.ofNat 32 (min 62 g.val) := by
    decide +kernel
  refine ⟨⟨min 62 f, by omega⟩, ?_, ?_, ?_⟩
  · unfold cell
    rw [hto]
    exact hmin ⟨f, by omega⟩
  · rw [hf] at hle
    refine le_trans ?_ hle
    show ((min 62 f : ℕ) : ℝ) ≤ ((f : ℤ) : ℝ)
    rw [Int.cast_natCast]
    exact_mod_cast Nat.min_le_right _ _
  · rw [hf, Int.cast_natCast] at hlt
    show r ≤ ((min 62 f : ℕ) : ℝ) + 1
    rcases Nat.lt_or_ge f 63 with h | h
    · rw [show min 62 f = f by omega]
      exact hlt.le
    · rw [show min 62 f = 62 by omega]
      norm_num
      exact h1

/-- The hat weight of an entry at a real position. -/
theorem hat_real (r : ℝ) (l : Fin 64) : hat (r : EReal) l = ((max 0 (1 - |r - l.val|) : ℝ) : EReal) := by
  unfold hat
  rw [abs_eq_max_neg]
  norm_cast

/-- The sampled line at a position between entry `i` and the next: the two entries, each weighted by the closeness to it. -/
theorem sample_cell (v : Fin 64 → EReal) (r : ℝ) (i : Fin 63) (h0 : (i.val : ℝ) ≤ r) (h1 : r ≤ (i.val : ℝ) + 1) :
    sample v (r : EReal) = v i.castSucc * (1 - ((r : EReal) - ((i.val : ℝ) : EReal))) + v i.succ * ((r : EReal) - ((i.val : ℝ) : EReal)) := by
  have e1 : hat (r : EReal) i.castSucc = 1 - ((r : EReal) - ((i.val : ℝ) : EReal)) := by
    rw [hat_real]
    have : max 0 (1 - |r - (i.castSucc.val : ℝ)|) = 1 - (r - i.val) := by
      rw [Fin.val_castSucc, abs_of_nonneg (by linarith)]
      exact max_eq_right (by linarith)
    rw [this]
    norm_cast
  have e2 : hat (r : EReal) i.succ = (r : EReal) - ((i.val : ℝ) : EReal) := by
    rw [hat_real]
    have : max 0 (1 - |r - (i.succ.val : ℝ)|) = r - i.val := by
      rw [Fin.val_succ, Nat.cast_add, Nat.cast_one, abs_of_nonpos (by linarith)]
      rw [max_eq_right (by linarith)]
      ring
    rw [this]
    norm_cast
  have hz : ∀ l : Fin 64, l ≠ i.castSucc → l ≠ i.succ → hat (r : EReal) l = 0 := fun l hl hl' => by
    rw [hat_real]
    have : max 0 (1 - |r - (l.val : ℝ)|) = 0 := by
      refine max_eq_left ?_
      have hne : l.val ≠ i.val := fun e => hl (Fin.ext e)
      have hne' : l.val ≠ i.val + 1 := fun e => hl' (Fin.ext e)
      rcases Nat.lt_or_ge l.val i.val with h | h
      · have : (l.val : ℝ) + 1 ≤ i.val := by exact_mod_cast h
        have := le_abs_self (r - (l.val : ℝ))
        linarith
      · have h2 : i.val + 2 ≤ l.val := by omega
        have : (i.val : ℝ) + 2 ≤ l.val := by exact_mod_cast h2
        have := neg_abs_le (r - (l.val : ℝ))
        linarith
    rw [this]
    rfl
  unfold sample
  rw [← e1, ← e2]
  refine Finset.sum_eq_add _ _ (fun e => ?_) (fun l _ hl => ?_) (fun h => absurd (Finset.mem_univ _) h) (fun h => absurd (Finset.mem_univ _) h)
  · have := congrArg Fin.val e
    simp at this
  · rw [hz l hl.1 hl.2, mul_zero]

/-- Doubling, subtracting one and adding it again, halving: nothing changes, at the infinities neither. -/
theorem double_halve (y : EReal) : (((2 : ℝ) : EReal) * y - 1 + 1) * (((1 / 2 : ℝ)) : EReal) = y := by
  induction y with
  | bot =>
    rw [EReal.coe_mul_bot_of_pos (by norm_num)]
    show ((⊥ : EReal) - 1 + 1) * _ = _
    rw [EReal.bot_sub, EReal.bot_add, EReal.bot_mul_coe_of_pos (by norm_num)]
  | top =>
    rw [EReal.coe_mul_top_of_pos (by norm_num)]
    have h1 : (⊤ : EReal) - 1 = ⊤ := EReal.top_sub_coe 1
    have h2 : (⊤ : EReal) + 1 = ⊤ := EReal.top_add_coe 1
    rw [h1, h2, EReal.top_mul_coe_of_pos (by norm_num)]
  | coe y =>
    rw [show (1 : EReal) = ((1 : ℝ) : EReal) from rfl]
    norm_cast
    ring_nf

/-- The two ways of scaling a coordinate to the line agree once cut to it. -/
theorem place_eq (lo hi q : EReal) :
    clip ((Ideal.ofBits .f32 0x40000000#32 * Ideal.div (q - lo) (hi - lo) - 1 + 1) * Ideal.ofBits .f32 0x3F000000#32
      * Ideal.ofBits .f32 0x427C0000#32) = place lo hi q := by
  rw [Literals.two, Literals.half, double_halve]
  unfold place scale
  generalize q - lo = x
  generalize hi - lo = d
  rw [Literals.sixtyThree]
  have h63 : (0 : EReal) < ((63 : ℝ) : EReal) := by exact_mod_cast (by norm_num : (0 : ℝ) < 63)
  by_cases hd : d = 0
  · subst hd
    have e1 : Ideal.div ((63 : ℝ) : EReal) 0 = ⊤ := by unfold Ideal.div; rw [if_pos rfl, if_pos h63]
    rw [e1]
    rcases lt_trichotomy x 0 with h | h | h
    · have e2 : Ideal.div x 0 = ⊥ := by unfold Ideal.div; rw [if_pos rfl, if_neg h.le.not_gt]
      rw [e2, EReal.bot_mul_coe_of_pos (by norm_num), EReal.mul_top_of_neg h]
    · subst h
      have e2 : Ideal.div (0 : EReal) 0 = ⊥ := by unfold Ideal.div; rw [if_pos rfl, if_neg (lt_irrefl _)]
      rw [e2, EReal.bot_mul_coe_of_pos (by norm_num), zero_mul]
      unfold clip
      rw [max_eq_left bot_le, max_self]
    · have e2 : Ideal.div x 0 = ⊤ := by unfold Ideal.div; rw [if_pos rfl, if_pos h]
      rw [e2, EReal.top_mul_coe_of_pos (by norm_num), EReal.mul_top_of_pos h]
  · unfold Ideal.div
    rw [if_neg hd, if_neg hd, mul_assoc, mul_comm d⁻¹]

end TopPicks

end
-- ==== Proof.ReferenceResult.lean ====
/-
  The reference's result, entry by entry: each axis' lines, interpolated between the two entries around the position.
-/
module

public import proofs.«01_k».proof.Proof.ReferenceLines
public import proofs.«01_k».proof.Proof.Cells

@[expose] public section

set_option maxRecDepth 16384

noncomputable section

namespace Cert.ReferenceIdeal.Result

open Cert.ReferenceIdeal Cert.ReferenceIdeal.Gen Cert.ReferenceIdeal.Value Idealize.ShloMosaic Idealize.ShloMosaic.TcCoe
  Idealize.ShloMosaic.StableHlo TopPicks Cert.ReferenceIdeal.Lines

/-! ## One axis -/

/-- The positions on the line, from the coordinates scaled to -1 … 1. -/
def positions (s : FVec Ideal S4x16384x1 .f32) : FVec Ideal S4x16384 .f32 :=
  minimumf (broadcastInDim S4x16384 ![] bcast_S_S4x16384 (sitofp .f32 (constantI S_ 32 63#32))) (maximumf (broadcastInDim S4x16384 ![] bcast_S_S4x16384 (id (constant S_ .f32 0x00000000#32))) (mulf (mulf (addf (shapeCast _ s shapeCasts_S4x16384x1_S4x16384) (broadcastInDim S4x16384 ![] bcast_S_S4x16384 (constant S_ .f32 0x3F800000#32))) (broadcastInDim S4x16384 ![] bcast_S_S4x16384 (constant S_ .f32 0x3F000000#32))) (broadcastInDim S4x16384 ![] bcast_S_S4x16384 (constant S_ .f32 0x427C0000#32))))

/-- The positions' cells. -/
def cells (x : FVec Ideal S4x16384 .f32) : IVec S4x16384 32 :=
  minsi (broadcastInDim S4x16384 ![] bcast_S_S4x16384 (id (constantI S_ 32 62#32))) (maxsi (broadcastInDim S4x16384 ![] bcast_S_S4x16384 (id (constantI S_ 32 0#32))) (fptosi 32 (Host.floor x)))

/-- The entries after the cells. -/
def nexts (w : IVec S4x16384 32) : IVec S4x16384 32 :=
  addi w (broadcastInDim S4x16384 ![] bcast_S_S4x16384 (constantI S_ 32 1#32))

/-- The index column of a read: negative indices count from the end. -/
def column (w : IVec S4x16384 32) : IVec S4x16384x1 32 :=
  shapeCast _ (select (cmpi .slt (broadcastInDim S4x1x16384 ![0, 2] bcast_S4x16384_S4x1x16384_0_2 w) (broadcastInDim S4x1x16384 ![] bcast_S_S4x1x16384 (constantI S_ 32 0#32))) (addi (broadcastInDim S4x1x16384 ![0, 2] bcast_S4x16384_S4x1x16384_0_2 w) (broadcastInDim S4x1x16384 ![] bcast_S_S4x1x16384 (constantI S_ 32 64#32))) (broadcastInDim S4x1x16384 ![0, 2] bcast_S4x16384_S4x1x16384_0_2 w)) shapeCasts_S4x1x16384_S4x16384x1

/-- Whether the index of a read lies within the line. -/
def within (i : IVec S4x16384x1 32) : IVec S4x16384 1 :=
  Host.reduce IntOp.andi (andi (cmpi .sge i (broadcastInDim S4x16384x1 ![] bcast_S_S4x16384x1 (constantI S_ 32 0#32))) (cmpi .sle i (broadcastInDim S4x16384x1 ![0, 1, 2] bcast_S1x1x1_S4x16384x1_0_1_2 (broadcastInDim S1x1x1 ![2] bcast_S1_S1x1x1_2 (constantI S1 32 63#32))))) (constantI S_ 1 1#1) reducesTo_S4x16384x1_S4x16384_d2 h_S_

/-- The lines read at an index column, with a filler where the index lies outside. -/
def taken (lines : FVec Ideal S4x384x64 .f32) (i : IVec S4x16384x1 32) : FVec Ideal S4x384x16384 .f32 :=
  select (broadcastInDim S4x384x16384 ![0, 2] bcast_S4x16384_S4x384x16384_0_2 (within i)) (Host.gather gather_S4x384x64_S4x16384x1_S4x384x16384_1_2_0_0_2_2_13841 lines i) (broadcastInDim S4x384x16384 ![] bcast_S_S4x384x16384 (constant S_ .f32 0x7FC00000#32))

/-- The distances of the positions from their cells. -/
def offsets (x : FVec Ideal S4x16384 .f32) : FVec Ideal S4x16384 .f32 := subf x (sitofp .f32 (cells x))

/-- The lines of one axis, interpolated at the positions. -/
def axisOf (lines : FVec Ideal S4x384x64 .f32) (x : FVec Ideal S4x16384 .f32) : FVec Ideal S4x16384x24x1x16 .f32 :=
  broadcastInDim S4x16384x24x1x16 ![0, 1, 2, 4] bcast_S4x16384x24x16_S4x16384x24x1x16_0_1_2_4 (shapeCast _ (transpose S4x16384x384 [0, 2, 1] (addf (mulf (taken lines (column (cells x))) (broadcastInDim S4x384x16384 ![0, 1, 2] bcast_S4x1x16384_S4x384x16384_0_1_2 (broadcastInDim S4x1x16384 ![0, 2] bcast_S4x16384_S4x1x16384_0_2 (subf (broadcastInDim S4x16384 ![] bcast_S_S4x16384 (constant S_ .f32 0x3F800000#32)) (offsets x))))) (mulf (taken lines (column (nexts (cells x)))) (broadcastInDim S4x384x16384 ![0, 1, 2] bcast_S4x1x16384_S4x384x16384_0_1_2 (broadcastInDim S4x1x16384 ![0, 2] bcast_S4x16384_S4x1x16384_0_2 (offsets x))))) transposes_S4x384x16384_S4x16384x384_0_2_1) shapeCasts_S4x16384x384_S4x16384x24x16)

/-- A position's cell, entry by entry. -/
theorem cells_apply (x : FVec Ideal S4x16384 .f32) (b : Fin 4) (n : Fin 16384) : cells x (ix2 b n) = cell (x (ix2 b n)) := by
  pointwise [cells]
  rfl

/-- The entry after a cell, entry by entry. -/
theorem nexts_apply (w : IVec S4x16384 32) (b : Fin 4) (n : Fin 16384) : nexts w (ix2 b n) = w (ix2 b n) + 1#32 := by
  pointwise [nexts]
  rfl

/-- An index within the line stays as it is in the index column. -/
theorem column_apply (w : IVec S4x16384 32) (b : Fin 4) (n : Fin 16384) (p : Fin 64)
    (hp : w (ix2 b n) = BitVec.ofNat 32 p.val) : column w (ix3 b n 0) = BitVec.ofNat 32 p.val := by
  pointwise [column]
  exact wrap_small _ _ _ hp (by omega)

/-- An index of the line lies within it. -/
theorem within_apply (i : IVec S4x16384x1 32) (b : Fin 4) (n : Fin 16384) (p : Fin 64)
    (hp : i (ix3 b n 0) = BitVec.ofNat 32 p.val) : within i (ix2 b n) = 1#1 := by
  have hc : ∀ q : Fin 64, IntOp.andi (IntOp.cmpi .sge (BitVec.ofNat 32 q.val) 0#32) (IntOp.cmpi .sle (BitVec.ofNat 32 q.val) 63#32) = 1#1 := by
    decide +kernel
  pointwise [within]
  rw [show (Finset.univ : Finset (Fin 1)) = {0} from rfl, Finset.fold_singleton, hp, hc]
  rfl

/-- A read at an index of the line gives the entry there. -/
theorem taken_apply (lines : FVec Ideal S4x384x64 .f32) (w : IVec S4x16384 32) (b : Fin 4) (q : Fin 384) (n : Fin 16384)
    (p : Fin 64) (hp : w (ix2 b n) = BitVec.ofNat 32 p.val) : taken lines (column w) (ix3 b q n) = lines (ix3 b q p) := by
  have hc := column_apply w b n p hp
  pointwise [taken]
  refine Eq.trans (if_pos (within_apply _ b n p hc)) ?_
  exact Gathers.entry_apply lines (column w) b q n p hc

/-- One axis' result: the line of the entry's row sampled with the hat weights. -/
theorem axisOf_apply (lines : FVec Ideal S4x384x64 .f32) (x : FVec Ideal S4x16384 .f32) (y : EReal) (b : Fin 4) (n : Fin 16384)
    (j : Fin 24) (k : Fin 16) (hx : x (ix2 b n) = clip y) :
    axisOf lines x (ix5 b n j 0 k)
      = sample (fun l => lines (ix3 b (⟨j.val * 16 + k.val, by omega⟩ : Fin 384) l)) (clip y) := by
  obtain ⟨r, hr, h0, h1⟩ := clip_real y
  obtain ⟨i, hi, hl, hu⟩ := cell_spec r h0 h1
  have hxr : x (ix2 b n) = (r : EReal) := hx.trans hr
  have hcell : cells x (ix2 b n) = BitVec.ofNat 32 i.castSucc.val := ((cells_apply x b n).trans (congrArg cell hxr)).trans hi
  have hnext : nexts (cells x) (ix2 b n) = BitVec.ofNat 32 i.succ.val := by
    rw [nexts_apply, hcell]
    exact (BitVec.ofNat_add _ _).symm
  have hoff : offsets x (ix2 b n) = (r : EReal) - ((i.val : ℝ) : EReal) := by
    have h : ∀ c : Fin 63, (BitVec.ofNat 32 c.val).toInt = c.val := by decide +kernel
    have e : (((cells x (ix2 b n)).toInt : ℝ) : EReal) = ((i.val : ℝ) : EReal) := by
      rw [hcell, Fin.val_castSucc, h i]
      rfl
    exact congrArg₂ (fun u v : EReal => u - v) hxr e
  rw [hr, sample_cell _ r i hl hu]
  pointwise [axisOf]
  rw [taken_apply lines _ b _ n _ hcell, taken_apply lines _ b _ n _ hnext, hoff]

/-! ## The result -/

variable (V : Valuation τ sig (Elt Ideal))

/-- The result is the three axes' arrays, side by side. -/
theorem v196_eq : res_main_v196 V = concatenate S4x16384x24x3x16 3
    [⟨S4x16384x24x1x16, axisOf (linesOf V (V (Proc.devRef .tc main_arg2))) (positions (extractStridedSlice S4x16384x1 ![0, 0, 0] (res_main_v16 V) slices_S4x16384x3_S4x16384x1_0_0_0))⟩,
     ⟨S4x16384x24x1x16, axisOf (linesOf V (V (Proc.devRef .tc main_arg3))) (positions (extractStridedSlice S4x16384x1 ![0, 0, 1] (res_main_v16 V) slices_S4x16384x3_S4x16384x1_0_0_1))⟩,
     ⟨S4x16384x24x1x16, axisOf (linesOf V (V (Proc.devRef .tc main_arg4))) (positions (extractStridedSlice S4x16384x1 ![0, 0, 2] (res_main_v16 V) slices_S4x16384x3_S4x16384x1_0_0_2))⟩]
    concatenates_S4x16384x24x1x16_S4x16384x24x1x16_S4x16384x24x1x16_S4x16384x24x3x16_d3 := rfl

/-- The coordinates scaled to -1 … 1. -/
theorem v16_apply (b : Fin 4) (n : Fin 16384) (a : Fin 3) :
    res_main_v16 V (ix3 b n a)
      = (fun lo hi q : EReal => Ideal.ofBits .f32 0x40000000#32 * Ideal.div (q - lo) (hi - lo) - 1)
        (V (Proc.devRef .tc main_arg6) (ix2 0 a)) (V (Proc.devRef .tc main_arg6) (ix2 1 a))
        (V (Proc.devRef .tc main_arg0) (ix3 b n a)) := by
  pointwise [res_main_v16]

/-- A position, from the scaled coordinate. -/
theorem positions_apply (s : FVec Ideal S4x16384x1 .f32) (b : Fin 4) (n : Fin 16384) :
    positions s (ix2 b n)
      = clip ((s (ix3 b n 0) + 1) * Ideal.ofBits .f32 0x3F000000#32 * Ideal.ofBits .f32 0x427C0000#32) := by
  have h63 : (((63#32 : BitVec 32).toInt : ℝ) : EReal) = Ideal.ofBits .f32 0x427C0000#32 := by
    rw [Literals.sixtyThree, show (63#32 : BitVec 32).toInt = 63 by decide]
    norm_num
  have h0 : Ideal.ofBits .f32 0#32 = (0 : EReal) := by simp [Ideal.ofBits, Ideal.ieee]
  pointwise [positions]
  exact congrArg₂ (fun u v : EReal => min u (max v _)) h63 h0

/-- The positions of an axis, from the coordinates and the bounds: where the kernel places them. -/
theorem position_eq (s : FVec Ideal S4x16384x1 .f32) (b : Fin 4) (n : Fin 16384) (a : Fin 3)
    (hs : s (ix3 b n 0) = res_main_v16 V (ix3 b n a)) :
    positions s (ix2 b n) = place (V (Proc.devRef .tc main_arg6) (ix2 0 a)) (V (Proc.devRef .tc main_arg6) (ix2 1 a))
      (V (Proc.devRef .tc main_arg0) (ix3 b n a)) := by
  rw [positions_apply, hs.trans (v16_apply V b n a)]
  exact place_eq _ _ _

/-- One axis' array holds the plain result of that axis. -/
theorem axis_result (f : Fin 3 → FVec Ideal S24x1024x64x16 .f32) (a : Fin 3) (s : FVec Ideal S4x16384x1 .f32) (b : Fin 4)
    (n : Fin 16384) (j : Fin 24) (k : Fin 16) (hs : s (ix3 b n 0) = res_main_v16 V (ix3 b n a)) :
    axisOf (linesOf V (f a)) (positions s) (ix5 b n j 0 k)
      = result (V (Proc.devRef .tc main_arg0)) (V (Proc.devRef .tc main_arg1)) f (V (Proc.devRef .tc main_arg5))
        (V (Proc.devRef .tc main_arg6)) b n j a k := by
  refine (axisOf_apply _ _ _ b n j k (position_eq V s b n a hs)).trans ?_
  exact congrArg (fun v => sample v _) (funext fun l => linesOf_apply V (f a) b j k l _ rfl)

/-- The tables of the three axes, from the arguments. -/
abbrev tables : Fin 3 → FVec Ideal S24x1024x64x16 .f32 :=
  axisTable (V (Proc.devRef .tc main_arg2)) (V (Proc.devRef .tc main_arg3)) (V (Proc.devRef .tc main_arg4))

/-- The reference's result is the plain result. -/
theorem v196_apply (b : Fin 4) (n : Fin 16384) (j : Fin 24) (a : Fin 3) (k : Fin 16) :
    res_main_v196 V (ix5 b n j a k)
      = result (V (Proc.devRef .tc main_arg0)) (V (Proc.devRef .tc main_arg1)) (tables V) (V (Proc.devRef .tc main_arg5))
        (V (Proc.devRef .tc main_arg6)) b n j a k := by
  refine (congrFun (v196_eq V) _).trans ?_
  match a with
  | 0 =>
    refine Eq.trans ?_ (axis_result V (tables V) 0 (extractStridedSlice S4x16384x1 ![0, 0, 0] (res_main_v16 V) slices_S4x16384x3_S4x16384x1_0_0_0) b n j k (by pointwise []))
    pointwise []
    rfl
  | 1 =>
    refine Eq.trans ?_ (axis_result V (tables V) 1 (extractStridedSlice S4x16384x1 ![0, 0, 1] (res_main_v16 V) slices_S4x16384x3_S4x16384x1_0_0_1) b n j k (by pointwise []))
    pointwise []
    rfl
  | 2 =>
    refine Eq.trans ?_ (axis_result V (tables V) 2 (extractStridedSlice S4x16384x1 ![0, 0, 2] (res_main_v16 V) slices_S4x16384x3_S4x16384x1_0_0_2) b n j k (by pointwise []))
    pointwise []
    rfl

end Cert.ReferenceIdeal.Result

end
-- ==== Proof.lean ====
/-
  The certificate: the frames of the three programs, the idealization, and that the idealized kernel and the reference
  compute the same array over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ResultRun
public import proofs.«01_k».proof.Proof.SampleArray
public import proofs.«01_k».proof.Proof.ReferenceResult
public import Idealize.ShloMosaic.Adequacy
public import Idealize.ShloMosaic.Init

@[expose] public section

noncomputable section

namespace Cert.Proof

open Idealize.ShloMosaic Idealize.SL.Sem

/-- The reference terminates with its arguments unchanged and every semaphore counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The plain result depends on the arguments alone. -/
theorem result_congr {p p' : FVec Ideal ⟨3, ![4, 16384, 3]⟩ .f32} {q q' : FVec Ideal ⟨3, ![4, 24, 4]⟩ .f32}
    {x x' y y' z z' : FVec Ideal ⟨4, ![24, 1024, 64, 16]⟩ .f32} {k k' : FVec Ideal ⟨3, ![24, 1024, 4]⟩ .f32}
    {u u' : FVec Ideal ⟨2, ![2, 3]⟩ .f32} (h0 : p' = p) (h1 : q' = q) (h2 : x' = x) (h3 : y' = y) (h4 : z' = z) (h5 : k' = k)
    (h6 : u' = u) (b : Fin 4) (n : Fin 16384) (j : Fin 24) (a : Fin 3) (e : Fin 16) :
    TopPicks.result p' q' (TopPicks.axisTable x' y' z') k' u' b n j a e
      = TopPicks.result p q (TopPicks.axisTable x y z) k u b n j a e := by
  subst h0 h1 h2 h3 h4 h5 h6
  rfl

/-- From arguments that agree, the kernel's and the reference's results agree, entry by entry. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.Value.res_main_v196 (Idealize.ShloMosaic.StableHlo.launchContents m' c)
      = Cert.KernelIdeal.Gen.W5 m ρ c (Proc.devRef .tc Cert.KernelIdeal.main_v47) := by
  funext i
  have hi := eq_ix5 i
  refine (congrArg _ hi).trans (Eq.trans ?_ (congrArg _ hi.symm))
  refine (Cert.ReferenceIdeal.Result.v196_apply _ _ _ _ _ _).trans
    (Eq.trans ?_ (Cert.KernelIdeal.SampleArray.result_apply c m ρ _ _ _ _ _).symm)
  exact result_congr h0 h1 h2 h3 h4 h5 h6 _ _ _ _ _

/-- Everything that the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, by
  intro m ρ m' ρ' _ hagree
  refine ⟨fun c => Cert.KernelIdeal.Gen.W5 m ρ c (Proc.devRef .tc Cert.KernelIdeal.main_v47),
    Cert.KernelIdeal.ResultRun.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6⟩ := hagree c
  exact results_agree m ρ m' c h0 h1 h2 h3 h4 h5 h6⟩

end Cert.Proof

end
